-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2048x512 : Shape := ⟨2, ![2048, 512]⟩
abbrev S2048x2048 : Shape := ⟨2, ![2048, 2048]⟩
abbrev S8 : Shape := ⟨1, ![8]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x4 : Shape := ⟨2, ![32, 4]⟩
abbrev S4 : Shape := ⟨1, ![4]⟩
abbrev S4x32 : Shape := ⟨2, ![4, 32]⟩
abbrev S32x10 : Shape := ⟨2, ![32, 10]⟩
abbrev S10 : Shape := ⟨1, ![10]⟩
abbrev S1 : Shape := ⟨1, ![1]⟩
abbrev S_ : Shape := ⟨0, ![]⟩
abbrev S7 : Shape := ⟨1, ![7]⟩

class Facts : Prop where
  slices_S8_S1_0 : S8.Slices ![0] S1
  shapeCasts_S1_S_ : S1.ShapeCasts S_
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  slices_S8_S7_0 : S8.Slices ![0] S7
  slices_S8_S7_1 : S8.Slices ![1] S7
  reducesTo_S7_S_d0 : S7.ReducesTo [0] S_
  slices_S8_S1_7 : S8.Slices ![7] S1

variable [Facts]

def fn_part2 {F : FTy → Type} [FloatOps F] (main_arg2 : IVec S8 32) (main_v32 : IVec S_ 1) (main_v33 : FVec F S32x4 .f32) (main_cst_11 : FVec F S_ .f32) : IVec S_ 1 :=
  let main_v34 : FVec F S32x4 .f32 := broadcastInDim S32x4 ![] bcast_S_S32x4 main_cst_11
  let main_v35 : IVec S32x4 1 := cmpf .olt main_v33 main_v34
  let main_c_12 : IVec S_ 1 := constantI S_ 1 1#1
  let main_v36 : IVec S_ 1 := (fun x v => Host.reduce IntOp.andi x v reducesTo_S32x4_S_d0_1 h_S_) main_v35 main_c_12
  let main_v37 : IVec S_ 1 := andi main_v32 main_v36
  let main_v38 : IVec S7 32 := (extractStridedSlice S7 ![0] · slices_S8_S7_0) main_arg2
  let main_v39 : IVec S7 32 := (extractStridedSlice S7 ![1] · slices_S8_S7_1) main_arg2
  let main_v40 : IVec S7 1 := cmpi .sle main_v38 main_v39
  let main_c_13 : IVec S_ 1 := constantI S_ 1 1#1
  let main_v41 : IVec S_ 1 := (fun x v => Host.reduce IntOp.andi x v reducesTo_S7_S_d0 h_S_) main_v40 main_c_13
  let main_v42 : IVec S_ 1 := andi main_v37 main_v41
  let main_v43 : IVec S1 32 := (extractStridedSlice S1 ![7] · slices_S8_S1_7) main_arg2
  let main_v44 : IVec S_ 32 := shapeCast S_ main_v43 shapeCasts_S1_S_
  let main_c_14 : IVec S_ 32 := constantI S_ 32 2048#32
  let main_v45 : IVec S_ 1 := cmpi .sle main_v44 main_c_14
  let main_v46 : IVec S_ 1 := andi main_v42 main_v45
  main_v46

def fn_part1 {F : FTy → Type} [FloatOps F] (main_arg2 : IVec S8 32) (main_arg4 : FVec F S128 .f32) (main_arg5 : FVec F S128x32 .f32) (main_arg6 : FVec F S32 .f32) (main_arg7 : FVec F S32x4 .f32) (main_v12 : IVec S_ 1) (main_v16 : IVec S_ 1) : IVec S_ 1 :=
  let main_v17 : IVec S_ 1 := andi main_v12 main_v16
  let main_v18 : FVec F S128 .f32 := Host.absf main_arg4
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_c_6 : IVec S_ 1 := constantI S_ 1 1#1
  let main_v21 : IVec S_ 1 := (fun x v => Host.reduce IntOp.andi x v reducesTo_S128_S_d0 h_S_) main_v20 main_c_6
  let main_v22 : IVec S_ 1 := andi main_v17 main_v21
  let main_v23 : FVec F S128x32 .f32 := Host.absf main_arg5
  let main_cst_7 : FVec F S_ .f32 := constant S_ .f32 0x7F800000#32
  let main_v24 : FVec F S128x32 .f32 := broadcastInDim S128x32 ![] bcast_S_S128x32 main_cst_7
  let main_v25 : IVec S128x32 1 := cmpf .olt main_v23 main_v24
  let main_c_8 : IVec S_ 1 := constantI S_ 1 1#1
  let main_v26 : IVec S_ 1 := (fun x v => Host.reduce IntOp.andi x v reducesTo_S128x32_S_d0_1 h_S_) main_v25 main_c_8
  let main_v27 : IVec S_ 1 := andi main_v22 main_v26
  let main_v28 : FVec F S32 .f32 := Host.absf main_arg6
  let main_cst_9 : FVec F S_ .f32 := constant S_ .f32 0x7F800000#32
  let main_v29 : FVec F S32 .f32 := broadcastInDim S32 ![] bcast_S_S32 main_cst_9
  let main_v30 : IVec S32 1 := cmpf .olt main_v28 main_v29
  let main_c_10 : IVec S_ 1 := constantI S_ 1 1#1
  let main_v31 : IVec S_ 1 := (fun x v => Host.reduce IntOp.andi x v reducesTo_S32_S_d0 h_S_) main_v30 main_c_10
  let main_v32 : IVec S_ 1 := andi main_v27 main_v31
  let main_v33 : FVec F S32x4 .f32 := Host.absf main_arg7
  let main_cst_11 : FVec F S_ .f32 := constant S_ .f32 0x7F800000#32
  fn_part2 (F := F) main_arg2 main_v32 main_v33 main_cst_11

def fn {F : FTy → Type} [FloatOps F] (main_arg0 : FVec F S2048x512 .f32) (main_arg1 : FVec F S2048x2048 .f32) (main_arg2 : IVec S8 32) (main_arg3 : FVec F S512x128 .f32) (main_arg4 : FVec F S128 .f32) (main_arg5 : FVec F S128x32 .f32) (main_arg6 : FVec F S32 .f32) (main_arg7 : FVec F S32x4 .f32) (main_arg8 : FVec F S4 .f32) (main_arg9 : FVec F S4x32 .f32) (main_arg10 : FVec F S32 .f32) (main_arg11 : FVec F S32x10 .f32) (main_arg12 : FVec F S10 .f32) : IVec S_ 1 :=
  let main_v0 : IVec S1 32 := (extractStridedSlice S1 ![0] · slices_S8_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : FVec F S2048x512 .f32 := Host.absf main_arg0
  let main_cst : FVec F S_ .f32 := constant S_ .f32 0x7F800000#32
  let main_v4 : FVec F S2048x512 .f32 := broadcastInDim S2048x512 ![] bcast_S_S2048x512 main_cst
  let main_v5 : IVec S2048x512 1 := cmpf .olt main_v3 main_v4
  let main_c_0 : IVec S_ 1 := constantI S_ 1 1#1
  let main_v6 : IVec S_ 1 := (fun x v => Host.reduce IntOp.andi x v reducesTo_S2048x512_S_d0_1 h_S_) main_v5 main_c_0
  let main_v7 : IVec S_ 1 := andi main_v2 main_v6
  let main_v8 : FVec F S2048x2048 .f32 := Host.absf main_arg1
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  let main_c_2 : IVec S_ 1 := constantI S_ 1 1#1
  let main_v11 : IVec S_ 1 := (fun x v => Host.reduce IntOp.andi x v reducesTo_S2048x2048_S_d0_1 h_S_) main_v10 main_c_2
  let main_v12 : IVec S_ 1 := andi main_v7 main_v11
  let main_v13 : FVec F S512x128 .f32 := Host.absf main_arg3
  let main_cst_3 : FVec F S_ .f32 := constant S_ .f32 0x7F800000#32
  let main_v14 : FVec F S512x128 .f32 := broadcastInDim S512x128 ![] bcast_S_S512x128 main_cst_3
  let main_v15 : IVec S512x128 1 := cmpf .olt main_v13 main_v14
  let main_c_4 : IVec S_ 1 := constantI S_ 1 1#1
  let main_v16 : IVec S_ 1 := (fun x v => Host.reduce IntOp.andi x v reducesTo_S512x128_S_d0_1 h_S_) main_v15 main_c_4
  fn_part1 (F := F) main_arg2 main_arg4 main_arg5 main_arg6 main_arg7 main_v12 main_v16
-- ==== Kernel.lean ====
abbrev S2048x512 : Shape := ⟨2, ![2048, 512]⟩
abbrev S2048x2048 : Shape := ⟨2, ![2048, 2048]⟩
abbrev S8 : Shape := ⟨1, ![8]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x4 : Shape := ⟨2, ![32, 4]⟩
abbrev S4 : Shape := ⟨1, ![4]⟩
abbrev S4x32 : Shape := ⟨2, ![4, 32]⟩
abbrev S32x10 : Shape := ⟨2, ![32, 10]⟩
abbrev S10 : Shape := ⟨1, ![10]⟩
abbrev S_ : Shape := ⟨0, ![]⟩
abbrev S1 : Shape := ⟨1, ![1]⟩
abbrev S7 : Shape := ⟨1, ![7]⟩
abbrev S8x1 : Shape := ⟨2, ![8, 1]⟩
abbrev S1x128 : Shape := ⟨2, ![1, 128]⟩
abbrev S1x32 : Shape := ⟨2, ![1, 32]⟩
abbrev S1x4 : Shape := ⟨2, ![1, 4]⟩
abbrev S1x10 : Shape := ⟨2, ![1, 10]⟩
abbrev S8x4 : Shape := ⟨2, ![8, 4]⟩
abbrev S8x10 : Shape := ⟨2, ![8, 10]⟩
abbrev S2048x128 : Shape := ⟨2, ![2048, 128]⟩
abbrev S16 : Shape := ⟨1, ![16]⟩
abbrev S128x2048 : Shape := ⟨2, ![128, 2048]⟩
abbrev S128x128 : Shape := ⟨2, ![128, 128]⟩
abbrev S2048x32 : Shape := ⟨2, ![2048, 32]⟩
abbrev S2048x4 : Shape := ⟨2, ![2048, 4]⟩
abbrev S8x2048 : Shape := ⟨2, ![8, 2048]⟩
abbrev S8x32 : Shape := ⟨2, ![8, 32]⟩

abbrev nBuf : Space → Nat
  | .hbm => 26
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S8, .i32⟩
  | .hbm, ⟨3, _⟩ => ⟨S512x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S32x4, .f32⟩
  | .hbm, ⟨8, _⟩ => ⟨S4, .f32⟩
  | .hbm, ⟨9, _⟩ => ⟨S4x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S_, .i32⟩
  | .hbm, ⟨14, _⟩ => ⟨S1, .i32⟩
  | .hbm, ⟨15, _⟩ => ⟨S7, .i32⟩
  | .hbm, ⟨16, _⟩ => ⟨S8, .i32⟩
  | .hbm, ⟨17, _⟩ => ⟨S8x1, .i32⟩
  | .hbm, ⟨18, _⟩ => ⟨S8x1, .i32⟩
  | .hbm, ⟨19, _⟩ => ⟨S1x128, .f32⟩
  | .hbm, ⟨20, _⟩ => ⟨S1x32, .f32⟩
  | .hbm, ⟨21, _⟩ => ⟨S1x4, .f32⟩
  | .hbm, ⟨22, _⟩ => ⟨S1x32, .f32⟩
  | .hbm, ⟨23, _⟩ => ⟨S1x10, .f32⟩
  | .hbm, ⟨24, _⟩ => ⟨S8x4, .f32⟩
  | .hbm, ⟨25, _⟩ => ⟨S8x10, .f32⟩
  | .local _ .vmem, ⟨0, _⟩ => ⟨S2048x512, .f32⟩
  | .local _ .vmem, ⟨1, _⟩ => ⟨S8x1, .i32⟩
  | .local _ .vmem, ⟨2, _⟩ => ⟨S8x1, .i32⟩
  | .local _ .vmem, ⟨3, _⟩ => ⟨S512x128, .f32⟩
  | .local _ .vmem, ⟨4, _⟩ => ⟨S1x128, .f32⟩
  | .local _ .vmem, ⟨5, _⟩ => ⟨S128x32, .f32⟩
  | .local _ .vmem, ⟨6, _⟩ => ⟨S1x32, .f32⟩
  | .local _ .vmem, ⟨7, _⟩ => ⟨S32x4, .f32⟩
  | .local _ .vmem, ⟨8, _⟩ => ⟨S1x4, .f32⟩
  | .local _ .vmem, ⟨9, _⟩ => ⟨S4x32, .f32⟩
  | .local _ .vmem, ⟨10, _⟩ => ⟨S1x32, .f32⟩
  | .local _ .vmem, ⟨11, _⟩ => ⟨S32x10, .f32⟩
  | .local _ .vmem, ⟨12, _⟩ => ⟨S1x10, .f32⟩
  | .local _ .vmem, ⟨13, _⟩ => ⟨S8x4, .f32⟩
  | .local _ .vmem, ⟨14, _⟩ => ⟨S8x10, .f32⟩
  | .local _ .vmem, ⟨15, _⟩ => ⟨S2048x2048, .f32⟩
  | .local _ .vmem, ⟨16, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v5_0 : Ref sig .tc := ⟨.hbm, 24, rfl⟩
abbrev main_v5_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
abbrev S2048x512 : Shape := ⟨2, ![2048, 512]⟩
abbrev S2048x2048 : Shape := ⟨2, ![2048, 2048]⟩
abbrev S8 : Shape := ⟨1, ![8]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x4 : Shape := ⟨2, ![32, 4]⟩
abbrev S4 : Shape := ⟨1, ![4]⟩
abbrev S4x32 : Shape := ⟨2, ![4, 32]⟩
abbrev S32x10 : Shape := ⟨2, ![32, 10]⟩
abbrev S10 : Shape := ⟨1, ![10]⟩
abbrev S2048x128 : Shape := ⟨2, ![2048, 128]⟩
abbrev S1x128 : Shape := ⟨2, ![1, 128]⟩
abbrev S_ : Shape := ⟨0, ![]⟩
abbrev S2048x32 : Shape := ⟨2, ![2048, 32]⟩
abbrev S1x32 : Shape := ⟨2, ![1, 32]⟩
abbrev S2048x4 : Shape := ⟨2, ![2048, 4]⟩
abbrev S1x4 : Shape := ⟨2, ![1, 4]⟩
abbrev S2048 : Shape := ⟨1, ![2048]⟩
abbrev S1x8 : Shape := ⟨2, ![1, 8]⟩
abbrev S2048x1 : Shape := ⟨2, ![2048, 1]⟩
abbrev S2048x8 : Shape := ⟨2, ![2048, 8]⟩
abbrev S9x4 : Shape := ⟨2, ![9, 4]⟩
abbrev S8x4 : Shape := ⟨2, ![8, 4]⟩
abbrev S1 : Shape := ⟨1, ![1]⟩
abbrev S7 : Shape := ⟨1, ![7]⟩
abbrev S8x1 : Shape := ⟨2, ![8, 1]⟩
abbrev S8x32 : Shape := ⟨2, ![8, 32]⟩
abbrev S8x10 : Shape := ⟨2, ![8, 10]⟩
abbrev S1x10 : Shape := ⟨2, ![1, 10]⟩

abbrev nBuf : Space → Nat
  | .hbm => 82
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S8, .i32⟩
  | .hbm, ⟨3, _⟩ => ⟨S512x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S32x4, .f32⟩
  | .hbm, ⟨8, _⟩ => ⟨S4, .f32⟩
  | .hbm, ⟨9, _⟩ => ⟨S4x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S2048x128, .f32⟩
  | .hbm, ⟨14, _⟩ => ⟨S2048x128, .f32⟩
  | .hbm, ⟨15, _⟩ => ⟨S1x128, .f32⟩
  | .hbm, ⟨16, _⟩ => ⟨S2048x128, .f32⟩
  | .hbm, ⟨17, _⟩ => ⟨S2048x128, .f32⟩
  | .hbm, ⟨18, _⟩ => ⟨S_, .f32⟩
  | .hbm, ⟨19, _⟩ => ⟨S2048x128, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S_, .f32⟩
  | .hbm, ⟨27, _⟩ => ⟨S2048x32, .f32⟩
  | .hbm, ⟨28, _⟩ => ⟨S2048x32, .f32⟩
  | .hbm, ⟨29, _⟩ => ⟨S2048x4, .f32⟩
  | .hbm, ⟨30, _⟩ => ⟨S2048x4, .f32⟩
  | .hbm, ⟨31, _⟩ => ⟨S1x4, .f32⟩
  | .hbm, ⟨32, _⟩ => ⟨S2048x4, .f32⟩
  | .hbm, ⟨33, _⟩ => ⟨S2048x4, .f32⟩
  | .hbm, ⟨34, _⟩ => ⟨S2048, .i32⟩
  | .hbm, ⟨35, _⟩ => ⟨S1x8, .i32⟩
  | .hbm, ⟨36, _⟩ => ⟨S2048x1, .i32⟩
  | .hbm, ⟨37, _⟩ => ⟨S2048x8, .i32⟩
  | .hbm, ⟨38, _⟩ => ⟨S2048x8, .i32⟩
  | .hbm, ⟨39, _⟩ => ⟨S2048x8, .i1⟩
  | .hbm, ⟨40, _⟩ => ⟨S2048x8, .i32⟩
  | .hbm, ⟨41, _⟩ => ⟨S_, .i32⟩
  | .hbm, ⟨42, _⟩ => ⟨S2048, .i32⟩
  | .hbm, ⟨43, _⟩ => ⟨S_, .f32⟩
  | .hbm, ⟨44, _⟩ => ⟨S9x4, .f32⟩
  | .hbm, ⟨45, _⟩ => ⟨S2048x1, .i32⟩
  | .hbm, ⟨46, _⟩ => ⟨S9x4, .f32⟩
  | .hbm, ⟨47, _⟩ => ⟨S8x4, .f32⟩
  | .hbm, ⟨48, _⟩ => ⟨S_, .i32⟩
  | .hbm, ⟨49, _⟩ => ⟨S1, .i32⟩
  | .hbm, ⟨50, _⟩ => ⟨S7, .i32⟩
  | .hbm, ⟨51, _⟩ => ⟨S8, .i32⟩
  | .hbm, ⟨52, _⟩ => ⟨S8, .i32⟩
  | .hbm, ⟨53, _⟩ => ⟨S8, .f32⟩
  | .hbm, ⟨54, _⟩ => ⟨S8x1, .f32⟩
  | .hbm, ⟨55, _⟩ => ⟨S8x4, .f32⟩
  | .hbm, ⟨56, _⟩ => ⟨S8x4, .f32⟩
  | .hbm, ⟨57, _⟩ => ⟨S8x32, .f32⟩
  | .hbm, ⟨58, _⟩ => ⟨S1x32, .f32⟩
  | .hbm, ⟨59, _⟩ => ⟨S8x32, .f32⟩
  | .hbm, ⟨60, _⟩ => ⟨S8x32, .f32⟩
  | .hbm, ⟨61, _⟩ => ⟨S_, .f32⟩
  | .hbm, ⟨62, _⟩ => ⟨S8x32, .f32⟩
  | .hbm, ⟨63, _⟩ => ⟨S8x32, .f32⟩
  | .hbm, ⟨64, _⟩ => ⟨S8x10, .f32⟩
  | .hbm, ⟨65, _⟩ => ⟨S1x10, .f32⟩
  | .hbm, ⟨66, _⟩ => ⟨S8x10, .f32⟩
  | .hbm, ⟨67, _⟩ => ⟨S8x10, .f32⟩
  | .hbm, ⟨68, _⟩ => ⟨S_, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8x1, .f32⟩
  | .hbm, ⟨74, _⟩ => ⟨S8x10, .f32⟩
  | .hbm, ⟨75, _⟩ => ⟨S8x10, .f32⟩
  | .hbm, ⟨76, _⟩ => ⟨S8x10, .f32⟩
  | .hbm, ⟨77, _⟩ => ⟨S_, .f32⟩
  | .hbm, ⟨78, _⟩ => ⟨S8, .f32⟩
  | .hbm, ⟨79, _⟩ => ⟨S8x1, .f32⟩
  | .hbm, ⟨80, _⟩ => ⟨S8x10, .f32⟩
  | .hbm, ⟨81, _⟩ => ⟨S8x10, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_1 : Ref sig .tc := ⟨.hbm, 68, rfl⟩
abbrev main_v46 : Ref sig .tc := ⟨.hbm, 69, rfl⟩
abbrev main_cst_2 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proof.IdealBody.lean ====
/-
  THE BODY OF THE KERNEL AT THE IDEAL INSTANCE, run once on any staging buffers.
  The body starts sixteen copies of 128 rows each from the adjacency matrix into on-chip memory, and waits for each
  copy only when it needs those rows. All sixteen are in flight together, so every wait has to put its rows back beside
  fifteen others; the budget for doing so is raised in `bodyRun`.
-/
module

public import proofs.«01_k».proof.Proof.Gen.KernelIdeal.Frame.Runs

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (c : Dev nD)
  (xM : Memref sig .tc .vmem S2048x512 .f32) (hx : xM.IsWhole)
  (gM : Memref sig .tc .vmem S8x1 .i32) (hg : gM.IsWhole)
  (sM : Memref sig .tc .vmem S8x1 .i32) (hs : sM.IsWhole)
  (w1M : Memref sig .tc .vmem S512x128 .f32) (hw1 : w1M.IsWhole)
  (b1M : Memref sig .tc .vmem S1x128 .f32) (hb1 : b1M.IsWhole)
  (w2M : Memref sig .tc .vmem S128x32 .f32) (hw2 : w2M.IsWhole)
  (b2M : Memref sig .tc .vmem S1x32 .f32) (hb2 : b2M.IsWhole)
  (w3M : Memref sig .tc .vmem S32x4 .f32) (hw3 : w3M.IsWhole)
  (b3M : Memref sig .tc .vmem S1x4 .f32) (hb3 : b3M.IsWhole)
  (u1M : Memref sig .tc .vmem S4x32 .f32) (hu1 : u1M.IsWhole)
  (d1M : Memref sig .tc .vmem S1x32 .f32) (hd1 : d1M.IsWhole)
  (u2M : Memref sig .tc .vmem S32x10 .f32) (hu2 : u2M.IsWhole)
  (d2M : Memref sig .tc .vmem S1x10 .f32) (hd2 : d2M.IsWhole)
  (poM : Memref sig .tc .vmem S8x4 .f32) (hpo : poM.IsWhole)
  (gaM : Memref sig .tc .vmem S8x10 .f32) (hga : gaM.IsWhole)
  (adjM : Memref sig .tc .vmem S2048x2048 .f32) (hadj : adjM.IsWhole)
  (hidM : Memref sig .tc .vmem S2048x128 .f32) (hhid : hidM.IsWhole)
  (x : Vec F S2048x512 .f32)
  (g : Vec F S8x1 .i32)
  (s : Vec F S8x1 .i32)
  (w1 : Vec F S512x128 .f32)
  (b1 : Vec F S1x128 .f32)
  (w2 : Vec F S128x32 .f32)
  (b2 : Vec F S1x32 .f32)
  (w3 : Vec F S32x4 .f32)
  (b3 : Vec F S1x4 .f32)
  (u1 : Vec F S4x32 .f32)
  (d1 : Vec F S1x32 .f32)
  (u2 : Vec F S32x10 .f32)
  (d2 : Vec F S1x10 .f32)
  (mat : HbBuf0 (F := F) c hbM0_0)

/-- The thirteen staged operands, each held whole at its value. -/
def operandsHeld : sProp 𝕄 :=
  iprop(owns (c : Thread nD τ) xM fullShare x
    ∗ owns (c : Thread nD τ) gM fullShare g
    ∗ owns (c : Thread nD τ) sM fullShare s
    ∗ owns (c : Thread nD τ) w1M fullShare w1
    ∗ owns (c : Thread nD τ) b1M fullShare b1
    ∗ owns (c : Thread nD τ) w2M fullShare w2
    ∗ owns (c : Thread nD τ) b2M fullShare b2
    ∗ owns (c : Thread nD τ) w3M fullShare w3
    ∗ owns (c : Thread nD τ) b3M fullShare b3
    ∗ owns (c : Thread nD τ) u1M fullShare u1
    ∗ owns (c : Thread nD τ) d1M fullShare d1
    ∗ owns (c : Thread nD τ) u2M fullShare u2
    ∗ owns (c : Thread nD τ) d2M fullShare d2)

/-- The sixteen copy counters, each at zero. -/
def countersZero : sProp 𝕄 :=
  iprop(semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0
    ∗ semVal ((c : Thread nD τ), SemLoc.dma 21) 0
    ∗ semVal ((c : Thread nD τ), SemLoc.dma 22) 0
    ∗ semVal ((c : Thread nD τ), SemLoc.dma 23) 0
    ∗ semVal ((c : Thread nD τ), SemLoc.dma 24) 0
    ∗ semVal ((c : Thread nD τ), SemLoc.dma 25) 0
    ∗ semVal ((c : Thread nD τ), SemLoc.dma 26) 0
    ∗ semVal ((c : Thread nD τ), SemLoc.dma 27) 0
    ∗ semVal ((c : Thread nD τ), SemLoc.dma 28) 0
    ∗ semVal ((c : Thread nD τ), SemLoc.dma 29) 0
    ∗ semVal ((c : Thread nD τ), SemLoc.dma 30) 0)

set_option maxHeartbeats 4000000 in
/-- THE RUN. Given the operands held, both results and both scratch arrays held at anything, the counters at zero and the
    adjacency matrix in main memory, the body runs to its end and hands everything back: the operands and the matrix as
    they were, the counters at zero, and each result with the listed stores written into it. The two lists of stores are
    what the definition returns; the execution finds them. -/
def bodyRun :
    Σ' (P : List (View.Piece (Elt F) S8x4 .f32)), { Q : List (View.Piece (Elt F) S8x10 .f32) //
      ∀ (W : Waits sig Unit) (K : PUnit → sProp 𝕄),
        iprop(operandsHeld c xM gM sM w1M b1M w2M b2M w3M b3M u1M d1M u2M d2M x g s w1 b1 w2 b2 w3 b3 u1 d1 u2 d2
            ∗ (∃ d, owns (c : Thread nD τ) poM fullShare d) ∗ (∃ d, owns (c : Thread nD τ) gaM fullShare d)
            ∗ (∃ d, owns (c : Thread nD τ) adjM fullShare d) ∗ (∃ d, owns (c : Thread nD τ) hidM fullShare d)
            ∗ countersZero c ∗ hbPt0 c hbM0_0 mat ∗ owes (c : Thread nD τ) 0 W
            ∗ (iprop(operandsHeld c xM gM sM w1M b1M w2M b2M w3M b3M u1M d1M u2M d2M x g s w1 b1 w2 b2 w3 b3 u1 d1 u2 d2
                ∗ (∃ f, poM.view.loc (c : Thread nD τ) ↦[poM.view.set]{fullShare} poM.view.writes (Elt F) f P)
                ∗ (∃ f, gaM.view.loc (c : Thread nD τ) ↦[gaM.view.set]{fullShare} gaM.view.writes (Elt F) f Q)
                ∗ (∃ d, owns (c : Thread nD τ) adjM fullShare d) ∗ (∃ d, owns (c : Thread nD τ) hidM fullShare d)
                ∗ countersZero c ∗ hbPt0 c hbM0_0 mat ∗ (∃ W', owes (c : Thread nD τ) 0 W')) -∗ K ⟨⟩))
          ⊢ wp frame (wpE (defs₀ (F := F)) Variants.none c none) Set.univ
              (cc0__fused_body xM hx (Memref.whole main_arg1) (Memref.isWhole_whole _) gM hg sM hs w1M hw1 b1M hb1 w2M hw2 b2M hb2 w3M hw3 b3M hb3 u1M hu1 d1M hd1 u2M hu2 d2M hd2 poM hpo gaM hga adjM hadj hidM hhid cc0_scratch2) K } := by
  refine ⟨?_, ?_, fun W K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold operandsHeld countersZero owns
    iintro ⟨⟨⟨%fx, %ex, Hx⟩, ⟨%fg, %eg, Hg⟩, ⟨%fs, %es, Hs⟩, ⟨%fw1, %ew1, Hw1⟩, ⟨%fb1, %eb1, Hb1⟩, ⟨%fw2, %ew2, Hw2⟩, ⟨%fb2, %eb2, Hb2⟩, ⟨%fw3, %ew3, Hw3⟩, ⟨%fb3, %eb3, Hb3⟩, ⟨%fu1, %eu1, Hu1⟩, ⟨%fd1, %ed1, Hd1⟩, ⟨%fu2, %eu2, Hu2⟩, ⟨%fd2, %ed2, Hd2⟩⟩, ⟨%vpo, %fpo, -, Hpo⟩, ⟨%vga, %fga, -, Hga⟩, ⟨%vadj, %fadj, -, Hadj⟩, ⟨%vhid, %fhid, -, Hhid⟩, ⟨Hq0, Hq1, Hq2, Hq3, Hq4, Hq5, Hq6, Hq7, Hq8, Hq9, Hq10, Hq11, Hq12, Hq13, Hq14, Hq15⟩, Hmat, HW, Hk⟩
    obtain rfl := hx.eq_unread ex
    obtain rfl := hg.eq_unread eg
    obtain rfl := hs.eq_unread es
    obtain rfl := hw1.eq_unread ew1
    obtain rfl := hb1.eq_unread eb1
    obtain rfl := hw2.eq_unread ew2
    obtain rfl := hb2.eq_unread eb2
    obtain rfl := hw3.eq_unread ew3
    obtain rfl := hb3.eq_unread eb3
    obtain rfl := hu1.eq_unread eu1
    obtain rfl := hd1.eq_unread ed1
    obtain rfl := hu2.eq_unread eu2
    obtain rfl := hd2.eq_unread ed2
    set_option sl_exec.dmaWindow true in set_option sl_exec.dmaWindowSet true in
    set_option sl_exec.rejoinHeartbeats 2000000 in sl_exec
    sl_step
    iapply Hk
    isplitl [Hx Hg Hs Hw1 Hb1 Hw2 Hb2 Hw3 Hb3 Hu1 Hd1 Hu2 Hd2]
    · isplitl [Hx]; · iexists _; isplitr; (ipureintro; exact hx.read_unread _); iexact Hx
      isplitl [Hg]; · iexists _; isplitr; (ipureintro; exact hg.read_unread _); iexact Hg
      isplitl [Hs]; · iexists _; isplitr; (ipureintro; exact hs.read_unread _); iexact Hs
      isplitl [Hw1]; · iexists _; isplitr; (ipureintro; exact hw1.read_unread _); iexact Hw1
      isplitl [Hb1]; · iexists _; isplitr; (ipureintro; exact hb1.read_unread _); iexact Hb1
      isplitl [Hw2]; · iexists _; isplitr; (ipureintro; exact hw2.read_unread _); iexact Hw2
      isplitl [Hb2]; · iexists _; isplitr; (ipureintro; exact hb2.read_unread _); iexact Hb2
      isplitl [Hw3]; · iexists _; isplitr; (ipureintro; exact hw3.read_unread _); iexact Hw3
      isplitl [Hb3]; · iexists _; isplitr; (ipureintro; exact hb3.read_unread _); iexact Hb3
      isplitl [Hu1]; · iexists _; isplitr; (ipureintro; exact hu1.read_unread _); iexact Hu1
      isplitl [Hd1]; · iexists _; isplitr; (ipureintro; exact hd1.read_unread _); iexact Hd1
      isplitl [Hu2]; · iexists _; isplitr; (ipureintro; exact hu2.read_unread _); iexact Hu2
      iexists _; isplitr; (ipureintro; exact hd2.read_unread _); iexact Hd2
    isplitl [Hpo]; · iexists _; iexact Hpo
    isplitl [Hga]; · iexists _; iexact Hga
    isplitl [Hadj]; · iexists _, _; isplitr; swap; (iexact Hadj); ipureintro; rfl
    isplitl [Hhid]; · iexists _, _; isplitr; swap; (iexact Hhid); ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hmat]; · iexact Hmat
    iexists _; iexact HW

/-- The stores into the pooled result fill it: there is one, of the whole array. -/
theorem pooled_full (y : S8x4.Idx) : ∃ pc ∈ (bodyRun c xM hx gM hg sM hs w1M hw1 b1M hb1 w2M hw2 b2M hb2 w3M hw3 b3M hb3 u1M hu1 d1M hd1 u2M hu2 d2M hd2 poM hpo gaM hga adjM hadj hidM hhid x g s w1 b1 w2 b2 w3 b3 u1 d1 u2 d2 mat).1, y ∈ pc.1.set :=
  View.cover_of_tiledL (bodyRun c xM hx gM hg sM hs w1M hw1 b1M hb1 w2M hw2 b2M hb2 w3M hw3 b3M hb3 u1M hu1 d1M hd1 u2M hu2 d2M hd2 poM hpo gaM hga adjM hadj hidM hhid x g s w1 b1 w2 b2 w3 b3 u1 d1 u2 d2 mat).1 S8x4.size (by sl_kernel_rfl) y

/-- The stores into the mixture weights fill them: there is one, of the whole array. -/
theorem gamma_full (y : S8x10.Idx) : ∃ pc ∈ (bodyRun c xM hx gM hg sM hs w1M hw1 b1M hb1 w2M hw2 b2M hb2 w3M hw3 b3M hb3 u1M hu1 d1M hd1 u2M hu2 d2M hd2 poM hpo gaM hga adjM hadj hidM hhid x g s w1 b1 w2 b2 w3 b3 u1 d1 u2 d2 mat).2.1, y ∈ pc.1.set :=
  View.cover_of_tiledL (bodyRun c xM hx gM hg sM hs w1M hw1 b1M hb1 w2M hw2 b2M hb2 w3M hw3 b3M hb3 u1M hu1 d1M hd1 u2M hu2 d2M hd2 poM hpo gaM hga adjM hadj hidM hhid x g s w1 b1 w2 b2 w3 b3 u1 d1 u2 d2 mat).2.1 S8x10.size (by sl_kernel_rfl) y

/-- What the body leaves in the pooled result. -/
def pooledLeft : Vec F S8x4 .f32 :=
  View.canon (bodyRun c xM hx gM hg sM hs w1M hw1 b1M hb1 w2M hw2 b2M hb2 w3M hw3 b3M hb3 u1M hu1 d1M hd1 u2M hu2 d2M hd2 poM hpo gaM hga adjM hadj hidM hhid x g s w1 b1 w2 b2 w3 b3 u1 d1 u2 d2 mat).1

/-- What the body leaves in the mixture weights. -/
def gammaLeft : Vec F S8x10 .f32 :=
  View.canon (bodyRun c xM hx gM hg sM hs w1M hw1 b1M hb1 w2M hw2 b2M hb2 w3M hw3 b3M hb3 u1M hu1 d1M hd1 u2M hu2 d2M hd2 poM hpo gaM hga adjM hadj hidM hhid x g s w1 b1 w2 b2 w3 b3 u1 d1 u2 d2 mat).2.1

end Cert.KernelIdeal.Fused

end
-- ==== Proof.IdealLaunch.lean ====
/-
  THE LAUNCH OF THE KERNEL AT THE IDEAL INSTANCE: the pipeline around the body has one point, every operand is staged whole,
  and so the run of the body is the run of the program. `quiescent` is the frame claim; `afterRun` also names what the
  two result arrays hold.
-/
module

public import proofs.«01_k».proof.Proof.IdealBody
public import Idealize.ShloMosaic.Lib.Claim

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pooled result after the body's run at point `t`, from what the launch finds in memory. -/
def pooledAt (c : Dev nD) (t : Fin cfg0.N) : Vec F S8x4 .f32 :=
  pooledLeft c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_arg1)

/-- The mixture weights after the body's run at point `t`. -/
def gammaAt (c : Dev nD) (t : Fin cfg0.N) : Vec F S8x10 .f32 :=
  gammaLeft c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_arg1)

/-- What the pipeline's arrays and staging buffers hold: the arrays what the launch finds, an operand's buffer its block,
    a result's buffer what the body leaves; between points, the scratch arrays, the counters and the matrix. -/
def plan (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => pooledAt m c t
    | ⟨14, _⟩ => gammaAt m c t
  Φ _ := Pipeline.ΦD osem0 spec0 H0 (V m) c
  q _ := fullShare
  owed _ := 0

theorem plan_arrays (c : Dev nD) (w : Fin cfg0.W) : (plan m 0 c).A w = V m c (Pipeline.arrRef spec0 w) := by
  dsimp only [plan]

theorem after_0 (c : Dev nD) (t : Fin cfg0.N) : (plan m 0 c).after 0 t = iblk m c 0 t := by dsimp only [plan]
theorem after_1 (c : Dev nD) (t : Fin cfg0.N) : (plan m 0 c).after 1 t = iblk m c 1 t := by dsimp only [plan]
theorem after_2 (c : Dev nD) (t : Fin cfg0.N) : (plan m 0 c).after 2 t = iblk m c 2 t := by dsimp only [plan]
theorem after_3 (c : Dev nD) (t : Fin cfg0.N) : (plan m 0 c).after 3 t = iblk m c 3 t := by dsimp only [plan]
theorem after_4 (c : Dev nD) (t : Fin cfg0.N) : (plan m 0 c).after 4 t = iblk m c 4 t := by dsimp only [plan]
theorem after_5 (c : Dev nD) (t : Fin cfg0.N) : (plan m 0 c).after 5 t = iblk m c 5 t := by dsimp only [plan]
theorem after_6 (c : Dev nD) (t : Fin cfg0.N) : (plan m 0 c).after 6 t = iblk m c 6 t := by dsimp only [plan]
theorem after_7 (c : Dev nD) (t : Fin cfg0.N) : (plan m 0 c).after 7 t = iblk m c 7 t := by dsimp only [plan]
theorem after_8 (c : Dev nD) (t : Fin cfg0.N) : (plan m 0 c).after 8 t = iblk m c 8 t := by dsimp only [plan]
theorem after_9 (c : Dev nD) (t : Fin cfg0.N) : (plan m 0 c).after 9 t = iblk m c 9 t := by dsimp only [plan]
theorem after_10 (c : Dev nD) (t : Fin cfg0.N) : (plan m 0 c).after 10 t = iblk m c 10 t := by dsimp only [plan]
theorem after_11 (c : Dev nD) (t : Fin cfg0.N) : (plan m 0 c).after 11 t = iblk m c 11 t := by dsimp only [plan]
theorem after_12 (c : Dev nD) (t : Fin cfg0.N) : (plan m 0 c).after 12 t = iblk m c 12 t := by dsimp only [plan]
theorem after_pooled (c : Dev nD) (t : Fin cfg0.N) : (plan m 0 c).after 13 t = pooledAt m c t := by dsimp only [plan]
theorem after_gamma (c : Dev nD) (t : Fin cfg0.N) : (plan m 0 c).after 14 t = gammaAt m c t := by dsimp only [plan]

theorem before_0 (c : Dev nD) (t : Fin cfg0.N) (d) : (plan m 0 c).before 0 t d = iblk m c 0 t :=
  before0_0_of m (plan m 0 c) (plan_arrays m c 0) (after_0 m c) t d
theorem before_1 (c : Dev nD) (t : Fin cfg0.N) (d) : (plan m 0 c).before 1 t d = iblk m c 1 t :=
  before0_1_of m (plan m 0 c) (plan_arrays m c 1) (after_1 m c) t d
theorem before_2 (c : Dev nD) (t : Fin cfg0.N) (d) : (plan m 0 c).before 2 t d = iblk m c 2 t :=
  before0_2_of m (plan m 0 c) (plan_arrays m c 2) (after_2 m c) t d
theorem before_3 (c : Dev nD) (t : Fin cfg0.N) (d) : (plan m 0 c).before 3 t d = iblk m c 3 t :=
  before0_3_of m (plan m 0 c) (plan_arrays m c 3) (after_3 m c) t d
theorem before_4 (c : Dev nD) (t : Fin cfg0.N) (d) : (plan m 0 c).before 4 t d = iblk m c 4 t :=
  before0_4_of m (plan m 0 c) (plan_arrays m c 4) (after_4 m c) t d
theorem before_5 (c : Dev nD) (t : Fin cfg0.N) (d) : (plan m 0 c).before 5 t d = iblk m c 5 t :=
  before0_5_of m (plan m 0 c) (plan_arrays m c 5) (after_5 m c) t d
theorem before_6 (c : Dev nD) (t : Fin cfg0.N) (d) : (plan m 0 c).before 6 t d = iblk m c 6 t :=
  before0_6_of m (plan m 0 c) (plan_arrays m c 6) (after_6 m c) t d
theorem before_7 (c : Dev nD) (t : Fin cfg0.N) (d) : (plan m 0 c).before 7 t d = iblk m c 7 t :=
  before0_7_of m (plan m 0 c) (plan_arrays m c 7) (after_7 m c) t d
theorem before_8 (c : Dev nD) (t : Fin cfg0.N) (d) : (plan m 0 c).before 8 t d = iblk m c 8 t :=
  before0_8_of m (plan m 0 c) (plan_arrays m c 8) (after_8 m c) t d
theorem before_9 (c : Dev nD) (t : Fin cfg0.N) (d) : (plan m 0 c).before 9 t d = iblk m c 9 t :=
  before0_9_of m (plan m 0 c) (plan_arrays m c 9) (after_9 m c) t d
theorem before_10 (c : Dev nD) (t : Fin cfg0.N) (d) : (plan m 0 c).before 10 t d = iblk m c 10 t :=
  before0_10_of m (plan m 0 c) (plan_arrays m c 10) (after_10 m c) t d
theorem before_11 (c : Dev nD) (t : Fin cfg0.N) (d) : (plan m 0 c).before 11 t d = iblk m c 11 t :=
  before0_11_of m (plan m 0 c) (plan_arrays m c 11) (after_11 m c) t d
theorem before_12 (c : Dev nD) (t : Fin cfg0.N) (d) : (plan m 0 c).before 12 t d = iblk m c 12 t :=
  before0_12_of m (plan m 0 c) (plan_arrays m c 12) (after_12 m c) t d

/-- What a point starts from: the state between points and every staging buffer. -/
def pointStart (c : Dev nD) (t : Fin cfg0.N) : sProp 𝕄 :=
  iprop((plan m 0 c).Φ t.castSucc ∗ (plan m 0 c).owesAt () t.castSucc
    ∗ (∃ d, owns (c : Thread nD τ) (ms0_0 t) fullShare ((plan m 0 c).before 0 t d))
    ∗ (∃ d, owns (c : Thread nD τ) (ms0_1 t) fullShare ((plan m 0 c).before 1 t d))
    ∗ (∃ d, owns (c : Thread nD τ) (ms0_2 t) fullShare ((plan m 0 c).before 2 t d))
    ∗ (∃ d, owns (c : Thread nD τ) (ms0_3 t) fullShare ((plan m 0 c).before 3 t d))
    ∗ (∃ d, owns (c : Thread nD τ) (ms0_4 t) fullShare ((plan m 0 c).before 4 t d))
    ∗ (∃ d, owns (c : Thread nD τ) (ms0_5 t) fullShare ((plan m 0 c).before 5 t d))
    ∗ (∃ d, owns (c : Thread nD τ) (ms0_6 t) fullShare ((plan m 0 c).before 6 t d))
    ∗ (∃ d, owns (c : Thread nD τ) (ms0_7 t) fullShare ((plan m 0 c).before 7 t d))
    ∗ (∃ d, owns (c : Thread nD τ) (ms0_8 t) fullShare ((plan m 0 c).before 8 t d))
    ∗ (∃ d, owns (c : Thread nD τ) (ms0_9 t) fullShare ((plan m 0 c).before 9 t d))
    ∗ (∃ d, owns (c : Thread nD τ) (ms0_10 t) fullShare ((plan m 0 c).before 10 t d))
    ∗ (∃ d, owns (c : Thread nD τ) (ms0_11 t) fullShare ((plan m 0 c).before 11 t d))
    ∗ (∃ d, owns (c : Thread nD τ) (ms0_12 t) fullShare ((plan m 0 c).before 12 t d))
    ∗ (∃ d, owns (c : Thread nD τ) (ms0_13 t) fullShare ((plan m 0 c).before 13 t d))
    ∗ (∃ d, owns (c : Thread nD τ) (ms0_14 t) fullShare ((plan m 0 c).before 14 t d)))

/-- What a point ends with. -/
def pointEnd (c : Dev nD) (t : Fin cfg0.N) : sProp 𝕄 :=
  iprop((plan m 0 c).Φ t.succ ∗ (plan m 0 c).owesAt () t.succ
    ∗ owns (c : Thread nD τ) (ms0_0 t) fullShare ((plan m 0 c).after 0 t)
    ∗ owns (c : Thread nD τ) (ms0_1 t) fullShare ((plan m 0 c).after 1 t)
    ∗ owns (c : Thread nD τ) (ms0_2 t) fullShare ((plan m 0 c).after 2 t)
    ∗ owns (c : Thread nD τ) (ms0_3 t) fullShare ((plan m 0 c).after 3 t)
    ∗ owns (c : Thread nD τ) (ms0_4 t) fullShare ((plan m 0 c).after 4 t)
    ∗ owns (c : Thread nD τ) (ms0_5 t) fullShare ((plan m 0 c).after 5 t)
    ∗ owns (c : Thread nD τ) (ms0_6 t) fullShare ((plan m 0 c).after 6 t)
    ∗ owns (c : Thread nD τ) (ms0_7 t) fullShare ((plan m 0 c).after 7 t)
    ∗ owns (c : Thread nD τ) (ms0_8 t) fullShare ((plan m 0 c).after 8 t)
    ∗ owns (c : Thread nD τ) (ms0_9 t) fullShare ((plan m 0 c).after 9 t)
    ∗ owns (c : Thread nD τ) (ms0_10 t) fullShare ((plan m 0 c).after 10 t)
    ∗ owns (c : Thread nD τ) (ms0_11 t) fullShare ((plan m 0 c).after 11 t)
    ∗ owns (c : Thread nD τ) (ms0_12 t) fullShare ((plan m 0 c).after 12 t)
    ∗ owns (c : Thread nD τ) (ms0_13 t) fullShare ((plan m 0 c).after 13 t)
    ∗ owns (c : Thread nD τ) (ms0_14 t) fullShare ((plan m 0 c).after 14 t))

set_option maxHeartbeats 1600000 in
/-- The body at a point: from `pointStart` it runs to `pointEnd`. -/
theorem point_runs (c : Dev nD) (t : Fin cfg0.N) :
    pointStart m c t ⊢ wp frame (wpE (defs₀ (F := F)) Variants.none c none) Set.univ (bodyAt0 t) (fun _ => pointEnd m c t) := by
  unfold pointStart pointEnd bodyAt0
  simp only [before_0, before_1, before_2, before_3, before_4, before_5, before_6, before_7, before_8, before_9, before_10, before_11, before_12]
  rw [show (plan m 0 c).Φ t.succ = (plan m 0 c).Φ t.castSucc from rfl,
    after_0, after_1, after_2, after_3, after_4, after_5, after_6, after_7, after_8, after_9, after_10, after_11, after_12, after_pooled, after_gamma]
  rw [show (plan m 0 c).Φ t.castSucc = Pipeline.ΦD osem0 spec0 H0 (V m) c from rfl, PhiD0_eq]
  unfold Dat.owesAt Pipeline.owesWithin
  rw [show (plan m 0 c).owed t.castSucc = 0 from rfl, show (plan m 0 c).owed t.succ = 0 from rfl]
  unfold pooledAt gammaAt pooledLeft gammaLeft
  iintro ⟨⟨⟨Hadj, Hhid⟩, Hg, Hq, Hmat⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, Hpo⟩, ⟨%d14, Hga⟩⟩
  iapply ((bodyRun c _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_arg1)).2.2 W _)
  isplitl [H0 H1 H2 H3 H4 H5 H6 H7 H8 H9 H10 H11 H12]
  · unfold operandsHeld
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [Hpo]; · iexists _; iexact Hpo
  isplitl [Hga]; · iexists _; iexact Hga
  isplitl [Hadj]; · iexact Hadj
  isplitl [Hhid]; · iexact Hhid
  isplitl [Hq]; · unfold countersZero; iexact Hq
  isplitl [Hmat]; · iexact Hmat
  isplitl [HW]; · iexact HW
  unfold operandsHeld countersZero
  iintro ⟨⟨H0, H1, H2, H3, H4, H5, H6, H7, H8, H9, H10, H11, H12⟩, ⟨%e13, Hpo⟩, ⟨%e14, Hga⟩, Hadj, Hhid, Hq, Hmat, ⟨%W', HW'⟩⟩
  isplitl [Hadj Hhid Hg Hq Hmat]
  · isplitl [Hadj Hhid]
    · isplitl [Hadj]; · iexact Hadj
      iexact Hhid
    isplitl [Hg]; · iexact Hg
    isplitl [Hq]; · iexact Hq
    iexact Hmat
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hpo]
  · unfold owns; iexists _; isplitr
    swap; · iexact Hpo
    ipureintro; exact View.read_writes_eq_canon _ _ _ (pooled_full c _ _ _ _ _ _ _ _ _ _ _ _ _ _ _ _ _ _ _ _ _ _ _ _ _ _ _ _ _ _ _ _ _ _ _ _ _ _ _ _ _ _ _ _ _ _ _ _)
  unfold owns; iexists _; isplitr
  swap; · iexact Hga
  ipureintro; exact View.read_writes_eq_canon _ _ _ (gamma_full c _ _ _ _ _ _ _ _ _ _ _ _ _ _ _ _ _ _ _ _ _ _ _ _ _ _ _ _ _ _ _ _ _ _ _ _ _ _ _ _ _ _ _ _ _ _ _ _)

/-- The obligation the pipeline asks of the body, at every point. -/
theorem body_ok (c : Dev nD) : BodyObligation (plan (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point_runs m c t) rfl .rfl fun _ => .rfl

set_option backward.isDefEq.respectTransparency.types false in
/-- Every run of the program ends; at the end each array holds what `plan` says and every counter is zero. -/
theorem launch : θ_run defs (onTc (τ := τ) (main (F := F))) (s₀ m ρ)
    (fun r => (Pipeline.FramePost cfgs (plan m) 0 (V m)) r ∧ r.2.sem = fun _ => 0) :=
  Pipeline.θ_run_frame_dma (Q' := _) cfgs (plan m) (0 : Fin 1) launch0 osem0 defs₀ Variants.none ownSemFacts0 H0 H0_sub m ρ main
    (hbody := fun c => (body_ok m c).loose) (hshare := fun c => (plan m 0 c).share_full fun _ => rfl)
    (howed := fun _ _ => rfl) (V := V m) (hmain := hmain m Variants.none) (hA := plan_arrays m)
    (hin := fun _ => .rfl) (hout := fun _ => .rfl)

/-- THE FRAME: every run ends, the arguments are as they were, every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨((h.1 c).1 0).trans (((plan m 0 c).arrAt_in 0 rfl _).trans ((plan_arrays m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((plan m 0 c).arrAt_in 3 rfl _).trans ((plan_arrays m c 3).trans (V_main_arg3 m c))),
      ((h.1 c).2 main_arg4 (Pipeline.mem_restRefs_of main_arg4 (by decide) (by decide))).trans (V_main_arg4 m c),
      ((h.1 c).1 5).trans (((plan m 0 c).arrAt_in 5 rfl _).trans ((plan_arrays m c 5).trans (V_main_arg5 m c))),
      ((h.1 c).2 main_arg6 (Pipeline.mem_restRefs_of main_arg6 (by decide) (by decide))).trans (V_main_arg6 m c),
      ((h.1 c).1 7).trans (((plan m 0 c).arrAt_in 7 rfl _).trans ((plan_arrays m c 7).trans (V_main_arg7 m c))),
      ((h.1 c).2 main_arg8 (Pipeline.mem_restRefs_of main_arg8 (by decide) (by decide))).trans (V_main_arg8 m c),
      ((h.1 c).1 9).trans (((plan m 0 c).arrAt_in 9 rfl _).trans ((plan_arrays m c 9).trans (V_main_arg9 m c))),
      ((h.1 c).2 main_arg10 (Pipeline.mem_restRefs_of main_arg10 (by decide) (by decide))).trans (V_main_arg10 m c),
      ((h.1 c).1 11).trans (((plan m 0 c).arrAt_in 11 rfl _).trans ((plan_arrays m c 11).trans (V_main_arg11 m c))),
      ((h.1 c).2 main_arg12 (Pipeline.mem_restRefs_of main_arg12 (by decide) (by decide))).trans (V_main_arg12 m c)⟩, h.2⟩) (launch m ρ)

/-- The frame with the two results named: the pooled means are window 13's array, the mixture weights window 14's. -/
theorem afterRun : θ_run defs (onTc (τ := τ) (main (F := F))) ⟨m, fun _ => 0, ρ⟩ (fun r => ∀ c : Dev nD,
      (r.2.mem ((c.tc : Thread nD τ).loc main_v5_0) = (plan m 0 c).arrAt 13 cfg0.N
        ∧ r.2.mem ((c.tc : Thread nD τ).loc main_v5_1) = (plan m 0 c).arrAt 14 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨⟨(h.1.1 c).1 13, (h.1.1 c).1 14⟩, h.2.1 c⟩)
    (θ_run_and (launch m ρ) (quiescent m ρ))

end Cert.KernelIdeal.Fused

end
-- ==== Proof.Layers.lean ====
/-
  WHAT THE NETWORK COMPUTES, on plain tables of extended reals: a product, a graph layer, the indicator of a graph's
  nodes, and the two ways of pooling the nodes of a graph. No program occurs here.
-/
module

public import Idealize.ShloMosaic.Lib.Pointwise

@[expose] public section

noncomputable section

namespace Cert.Net

open Idealize.ShloMosaic

/-- A two-axis array as a table. -/
def cells {n k : ℕ} (A : FVec Ideal ⟨2, ![n, k]⟩ .f32) : Fin n → Fin k → EReal := fun i j => A (ix2 i j)

/-- A one-axis array as a row. -/
def row {n : ℕ} (v : FVec Ideal ⟨1, ![n]⟩ .f32) : Fin n → EReal := fun i => v (ix1 i)

/-- The product of two tables. -/
def dot {n k p : ℕ} (A : Fin n → Fin k → EReal) (B : Fin k → Fin p → EReal) : Fin n → Fin p → EReal :=
  fun i j => ∑ q, A i q * B q j

/-- The positive part of `A · B` with a bias added to every row. -/
def layer {n k p : ℕ} (A : Fin n → Fin k → EReal) (B : Fin k → Fin p → EReal) (b : Fin p → EReal) :
    Fin n → Fin p → EReal :=
  fun i j => max (dot A B i j + b j) 0

/-- The last product before the second aggregation: two graph layers, then the third projection. -/
def features {n d h₁ h₂ o : ℕ} (x : Fin n → Fin d → EReal) (adj : Fin n → Fin n → EReal) (W1 : Fin d → Fin h₁ → EReal)
    (b1 : Fin h₁ → EReal) (W2 : Fin h₁ → Fin h₂ → EReal) (b2 : Fin h₂ → EReal) (W3 : Fin h₂ → Fin o → EReal) :
    Fin n → Fin o → EReal :=
  dot (layer adj (dot (layer adj (dot x W1) b1) W2) b2) W3

/-- The first node of graph `i`: the end of the graph before it, or zero. -/
def firstNode (g : Fin 8 → BitVec 32) (i : Fin 8) : BitVec 32 :=
  if (i : ℕ) < 1 then 0#32 else g ⟨(i : ℕ) - 1, by omega⟩

/-- One at the nodes from graph `i`'s first to before its end, zero elsewhere. -/
def indicator (g : Fin 8 → BitVec 32) (i : Fin 8) (n : Fin 2048) : EReal :=
  if (firstNode g i).toInt ≤ (n : ℤ) ∧ (n : ℤ) < (g i).toInt then 1 else 0

/-- The number of nodes of graph `i`. -/
def nodeCount (g : Fin 8 → BitVec 32) (i : Fin 8) : EReal := (((g i - firstNode g i).toInt : ℝ) : EReal)

/-- The kernel's pooled mean: the indicator is multiplied into the adjacency matrix first, the bias comes last. -/
def pooledByRows (g : Fin 8 → BitVec 32) (adj : Fin 2048 → Fin 2048 → EReal) (f : Fin 2048 → Fin 4 → EReal)
    (b : Fin 4 → EReal) (i : Fin 8) (l : Fin 4) : EReal :=
  Ideal.div (dot (dot (indicator g) adj) f i l) (nodeCount g i) + b l

/-- The reference's pooled mean: the nodes between the two ends are aggregated one by one, each with the bias, then summed. -/
def pooledByNodes (g : Fin 8 → BitVec 32) (adj : Fin 2048 → Fin 2048 → EReal) (f : Fin 2048 → Fin 4 → EReal)
    (b : Fin 4 → EReal) (i : Fin 8) (l : Fin 4) : EReal :=
  Ideal.div (∑ n ∈ Finset.univ.filter (fun n : Fin 2048 => (firstNode g i).toInt ≤ (n : ℤ) ∧ (n : ℤ) < (g i).toInt),
    (dot adj f n l + b l)) (nodeCount g i)

/-- The class scores of the graphs, from their pooled means. -/
def scores (P : Fin 8 → Fin 4 → EReal) (We1 : Fin 4 → Fin 32 → EReal) (be1 : Fin 32 → EReal)
    (We2 : Fin 32 → Fin 10 → EReal) (be2 : Fin 10 → EReal) : Fin 8 → Fin 10 → EReal :=
  fun i j => dot (layer P We1 be1) We2 i j + be2 j

/-- The largest entry of each row, started from the float `-∞`. -/
def rowMax (s : Fin 8 → Fin 10 → EReal) (i : Fin 8) : EReal :=
  Finset.univ.fold max (Ideal.ofBits .f32 0xFF800000#32) (s i)

/-- The softmax along each row. -/
def softmax (s : Fin 8 → Fin 10 → EReal) (i : Fin 8) (j : Fin 10) : EReal :=
  Ideal.div (Ideal.exp (s i j - rowMax s i)) (∑ q, Ideal.exp (s i q - rowMax s i))

end Cert.Net

end
-- ==== Proof.KernelEntry.lean ====
/-
  WHAT THE KERNEL IS CALLED ON: the launch has one point and every operand is staged whole, so each staged block is its
  array; the graph ends, the graph starts and the biases reach the call as reshaped copies of the arguments.
-/
module

public import proofs.«01_k».proof.Proof.IdealLaunch
public import proofs.«01_k».proof.Proof.Layers
public import Idealize.ShloMosaic.Lib.Pointwise
public import Idealize.ShloMosaic.Lib.Pipeline.ValueKit

@[expose] public section

set_option maxRecDepth 16384

noncomputable section

namespace Cert.KernelIdeal.Fused

open Cert.KernelIdeal Cert.KernelIdeal.Gen Cert.Net
open Idealize.ShloMosaic Idealize.ShloMosaic.TcCoe Idealize.ShloMosaic.Tactic
open Idealize.ShloMosaic.Pipeline (Dat)

variable (m : (ℓ : Loc nD τ sig) → Buf (Elt Ideal) ℓ)

/-- The one point's blocks all start at the origin. -/
theorem origin :
    (win0_0.index t0_0 0 = 0 ∧ win0_0.index t0_0 1 = 0)
    ∧ (win0_1.index t0_0 0 = 0 ∧ win0_1.index t0_0 1 = 0)
    ∧ (win0_2.index t0_0 0 = 0 ∧ win0_2.index t0_0 1 = 0)
    ∧ (win0_3.index t0_0 0 = 0 ∧ win0_3.index t0_0 1 = 0)
    ∧ (win0_4.index t0_0 0 = 0 ∧ win0_4.index t0_0 1 = 0)
    ∧ (win0_5.index t0_0 0 = 0 ∧ win0_5.index t0_0 1 = 0)
    ∧ (win0_6.index t0_0 0 = 0 ∧ win0_6.index t0_0 1 = 0)
    ∧ (win0_7.index t0_0 0 = 0 ∧ win0_7.index t0_0 1 = 0)
    ∧ (win0_8.index t0_0 0 = 0 ∧ win0_8.index t0_0 1 = 0)
    ∧ (win0_9.index t0_0 0 = 0 ∧ win0_9.index t0_0 1 = 0)
    ∧ (win0_10.index t0_0 0 = 0 ∧ win0_10.index t0_0 1 = 0)
    ∧ (win0_11.index t0_0 0 = 0 ∧ win0_11.index t0_0 1 = 0)
    ∧ (win0_12.index t0_0 0 = 0 ∧ win0_12.index t0_0 1 = 0)
    ∧ (win0_13.index t0_0 0 = 0 ∧ win0_13.index t0_0 1 = 0)
    ∧ (win0_14.index t0_0 0 = 0 ∧ win0_14.index t0_0 1 = 0) := by decide +kernel

/-! Each staged operand is its array, whole. -/

theorem block_0 (c : Dev nD) : iblk m c 0 t0_0 = V m c main_arg0 := by funext i; blk_point [iblk, origin]
theorem block_1 (c : Dev nD) : iblk m c 1 t0_0 = V m c main_v3 := by funext i; blk_point [iblk, origin]
theorem block_2 (c : Dev nD) : iblk m c 2 t0_0 = V m c main_v4 := by funext i; blk_point [iblk, origin]
theorem block_3 (c : Dev nD) : iblk m c 3 t0_0 = V m c main_arg3 := by funext i; blk_point [iblk, origin]
theorem block_4 (c : Dev nD) : iblk m c 4 t0_0 = V m c main_call0_v0 := by funext i; blk_point [iblk, origin]
theorem block_5 (c : Dev nD) : iblk m c 5 t0_0 = V m c main_arg5 := by funext i; blk_point [iblk, origin]
theorem block_6 (c : Dev nD) : iblk m c 6 t0_0 = V m c main_call0_v1 := by funext i; blk_point [iblk, origin]
theorem block_7 (c : Dev nD) : iblk m c 7 t0_0 = V m c main_arg7 := by funext i; blk_point [iblk, origin]
theorem block_8 (c : Dev nD) : iblk m c 8 t0_0 = V m c main_call0_v2 := by funext i; blk_point [iblk, origin]
theorem block_9 (c : Dev nD) : iblk m c 9 t0_0 = V m c main_arg9 := by funext i; blk_point [iblk, origin]
theorem block_10 (c : Dev nD) : iblk m c 10 t0_0 = V m c main_call0_v3 := by funext i; blk_point [iblk, origin]
theorem block_11 (c : Dev nD) : iblk m c 11 t0_0 = V m c main_arg11 := by funext i; blk_point [iblk, origin]
theorem block_12 (c : Dev nD) : iblk m c 12 t0_0 = V m c main_call0_v4 := by funext i; blk_point [iblk, origin]

/-- The ends of the graphs, as the program finds them. -/
def graphEnds (c : Dev nD) : Fin 8 → BitVec 32 := fun r => (m ((c.tc : Thread nD τ).loc main_arg2) : IVec S8 32) (ix1 r)

/-- The call's column of graph ends. -/
theorem ends_read (c : Dev nD) (r : Fin 8) : (V m c main_v3 : IVec S8x1 32) (ix2 r 0) = graphEnds m c r := by
  unfold graphEnds
  simp only [V, hostOps0, hostOps0_1, List.flatten_cons, List.flatten_nil, List.append_nil, List.cons_append, List.nil_append]
  entry_read
  pointwise

/-- The call's column of graph starts. -/
theorem starts_read (c : Dev nD) (r : Fin 8) : (V m c main_v4 : IVec S8x1 32) (ix2 r 0) = firstNode (graphEnds m c) r := by
  unfold graphEnds firstNode
  simp only [V, hostOps0, hostOps0_1, List.flatten_cons, List.flatten_nil, List.append_nil, List.cons_append, List.nil_append]
  entry_read
  pointwise
  by_cases h : (r : ℕ) < 1
  · exact (dif_pos h).trans (if_pos h).symm
  · exact (dif_neg h).trans (if_neg h).symm

/-! Each bias reaches the call as one row. -/

theorem bias_4 (c : Dev nD) (r : Fin 128) :
    (V m c main_call0_v0 : FVec Ideal S1x128 .f32) (ix2 0 r) = row (m ((c.tc : Thread nD τ).loc main_arg4)) r := by
  unfold row
  simp only [V, hostOps0, hostOps0_1, List.flatten_cons, List.flatten_nil, List.append_nil, List.cons_append, List.nil_append]
  entry_read
  pointwise

theorem bias_6 (c : Dev nD) (r : Fin 32) :
    (V m c main_call0_v1 : FVec Ideal S1x32 .f32) (ix2 0 r) = row (m ((c.tc : Thread nD τ).loc main_arg6)) r := by
  unfold row
  simp only [V, hostOps0, hostOps0_1, List.flatten_cons, List.flatten_nil, List.append_nil, List.cons_append, List.nil_append]
  entry_read
  pointwise

theorem bias_8 (c : Dev nD) (r : Fin 4) :
    (V m c main_call0_v2 : FVec Ideal S1x4 .f32) (ix2 0 r) = row (m ((c.tc : Thread nD τ).loc main_arg8)) r := by
  unfold row
  simp only [V, hostOps0, hostOps0_1, List.flatten_cons, List.flatten_nil, List.append_nil, List.cons_append, List.nil_append]
  entry_read
  pointwise

theorem bias_10 (c : Dev nD) (r : Fin 32) :
    (V m c main_call0_v3 : FVec Ideal S1x32 .f32) (ix2 0 r) = row (m ((c.tc : Thread nD τ).loc main_arg10)) r := by
  unfold row
  simp only [V, hostOps0, hostOps0_1, List.flatten_cons, List.flatten_nil, List.append_nil, List.cons_append, List.nil_append]
  entry_read
  pointwise

theorem bias_12 (c : Dev nD) (r : Fin 10) :
    (V m c main_call0_v4 : FVec Ideal S1x10 .f32) (ix2 0 r) = row (m ((c.tc : Thread nD τ).loc main_arg12)) r := by
  unfold row
  simp only [V, hostOps0, hostOps0_1, List.flatten_cons, List.flatten_nil, List.append_nil, List.cons_append, List.nil_append]
  entry_read
  pointwise

/-- After the run, the array of pooled means is what the body leaves. -/
theorem pooled_array (c : Dev nD) : (plan m 0 c).arrAt 13 cfg0.N = pooledAt m c t0_0 := by
  refine (plan m 0 c).arrAt_eq_of_after_last 13 t0_0 (by decide +kernel) _ fun j => ?_
  blk_simp [origin]
  rw [after_pooled]

/-- After the run, the array of mixture weights is what the body leaves. -/
theorem gamma_array (c : Dev nD) : (plan m 0 c).arrAt 14 cfg0.N = gammaAt m c t0_0 := by
  refine (plan m 0 c).arrAt_eq_of_after_last 14 t0_0 (by decide +kernel) _ fun j => ?_
  blk_simp [origin]
  rw [after_gamma]

end Cert.KernelIdeal.Fused

end
-- ==== Proof.KernelPayload.lean ====
/-
  WHAT THE KERNEL'S ARITHMETIC COMPUTES, from the arrays it loads.
-/
module

public import proofs.«01_k».proof.Proof.Layers
public import proofs.«01_k».proof.Proof.Gen.KernelIdeal.Skeleton

@[expose] public section

set_option maxRecDepth 16384

noncomputable section

namespace Cert.KernelIdeal.Fused

open Cert.KernelIdeal Cert.KernelIdeal.Gen Cert.Net
open Idealize.ShloMosaic

/-- The first projection. -/
theorem projection1 (x : FVec Ideal S2048x512 .f32) (W1 : FVec Ideal S512x128 .f32) (r : Fin 2048) (l : Fin 128) :
    k0_pay2 (F := Ideal) x W1 (ix2 r l) = dot (cells x) (cells W1) r l := by
  pointwise [k0_pay2]
  rfl

/-- The second projection. -/
theorem projection2 (h : FVec Ideal S2048x128 .f32) (W2 : FVec Ideal S128x32 .f32) (r : Fin 2048) (l : Fin 32) :
    k0_pay24 (F := Ideal) h W2 (ix2 r l) = dot (cells h) (cells W2) r l := by
  pointwise [k0_pay24]
  rfl

/-- The word of a comparison's conjunction, read as a number: one where both hold, zero elsewhere. -/
theorem indicator_word (lo hi : BitVec 32) (n : Fin 2048) :
    FloatOps.sitofp (F := Ideal) .f32 (BitVec.setWidth 32
        (IntOp.andi (IntOp.cmpi .sge (BitVec.ofNat 32 ↑n) lo) (IntOp.cmpi .slt (BitVec.ofNat 32 ↑n) hi)))
      = if lo.toInt ≤ (n : ℤ) ∧ (n : ℤ) < hi.toInt then 1 else 0 := by
  have hn : (BitVec.ofNat 32 (n : ℕ)).toInt = (n : ℤ) := by
    have := n.isLt
    have h : (BitVec.ofNat 32 (n : ℕ)).toNat = n := by rw [BitVec.toNat_ofNat]; omega
    rw [BitVec.toInt_eq_toNat_of_lt (by omega), h]
  show (((BitVec.setWidth 32 (BitVec.ofBool (lo.sle (BitVec.ofNat 32 ↑n)) &&& BitVec.ofBool ((BitVec.ofNat 32 ↑n).slt hi))).toInt : ℝ) : EReal) = _
  rw [BitVec.sle_eq_decide, BitVec.slt_eq_decide, hn]
  by_cases h₁ : lo.toInt ≤ (n : ℤ) <;> by_cases h₂ : (n : ℤ) < hi.toInt <;> simp [h₁, h₂]

/-- The pooled means, from the adjacency matrix, the second projection and the small operands. -/
theorem pooled_pay (adj : FVec Ideal S2048x2048 .f32) (p : FVec Ideal S2048x32 .f32) (b2 : FVec Ideal S1x32 .f32)
    (W3 : FVec Ideal S32x4 .f32) (g s : IVec S8x1 32) (b3 : FVec Ideal S1x4 .f32) (ends : Fin 8 → BitVec 32)
    (hg : ∀ r, g (ix2 r 0) = ends r) (hs : ∀ r, s (ix2 r 0) = firstNode ends r) (r : Fin 8) (l : Fin 4) :
    k0_pay25 (F := Ideal) adj p (constant S2048x32 .f32 0#32) b2 W3 g s b3 (ix2 r l)
      = pooledByRows ends (cells adj) (dot (layer (cells adj) (cells p) (fun j => b2 (ix2 0 j))) (cells W3))
          (fun j => b3 (ix2 0 j)) r l := by
  pointwise [k0_pay25]
  simp only [indicator_word, hg, hs]
  rfl

/-- The head's hidden row, from the pooled means. -/
theorem hidden_pay (adj : FVec Ideal S2048x2048 .f32) (p cst : FVec Ideal S2048x32 .f32) (b2 : FVec Ideal S1x32 .f32)
    (W3 : FVec Ideal S32x4 .f32) (g s : IVec S8x1 32) (b3 : FVec Ideal S1x4 .f32) (We1 : FVec Ideal S4x32 .f32)
    (be1 : FVec Ideal S1x32 .f32) :
    cells (k0_pay26 (F := Ideal) adj p cst b2 W3 g s b3 We1 be1)
      = layer (cells (k0_pay25 (F := Ideal) adj p cst b2 W3 g s b3)) (cells We1) (fun j => be1 (ix2 0 j)) := by
  funext r l
  unfold cells k0_pay26
  generalize k0_pay25 (F := Ideal) adj p cst b2 W3 g s b3 = P
  pointwise []
  rfl

/-- The class weights, from the head's hidden row. -/
theorem gamma_pay (h : FVec Ideal S8x32 .f32) (We2 : FVec Ideal S32x10 .f32) (be2 : FVec Ideal S1x10 .f32) (r : Fin 8)
    (l : Fin 10) :
    k0_pay1 (F := Ideal) h We2 be2 (ix2 r l)
      = softmax (fun i j => dot (cells h) (cells We2) i j + be2 (ix2 0 j)) r l := by
  pointwise [k0_pay1]
  rfl

/-- A slab of the first hidden layer: the positive part of the slab's rows of the adjacency matrix times the first
    projection, with the bias. -/
def slabOf (p : FVec Ideal S2048x128 .f32) (b : FVec Ideal S1x128 .f32) (blk : FVec Ideal S128x2048 .f32) :
    FVec Ideal S128x128 .f32 :=
  fun i => max (∑ k : Fin 2048, blk (ix2 (i 0) k) * p (ix2 k (i 1)) + b (ix2 0 (i 1))) 0

/-- What the body stores at rows 0 to 127 of the first hidden layer. -/
theorem slab_0 (p : FVec Ideal S2048x128 .f32) (b : FVec Ideal S1x128 .f32) (blk : FVec Ideal S128x2048 .f32) :
    ((k0_pay4 p (k0_pay3 b) blk) : FVec Ideal S128x128 .f32) = slabOf p (k0_pay3 b) blk := by
  funext i
  idx_vars i
  pointwise [k0_pay4, slabOf, k0_pay3]

/-- What the body stores at rows 128 to 255 of the first hidden layer. -/
theorem slab_1 (p : FVec Ideal S2048x128 .f32) (b : FVec Ideal S1x128 .f32) (blk : FVec Ideal S128x2048 .f32) :
    ((k0_pay5 p (k0_pay3 b) blk) : FVec Ideal S128x128 .f32) = slabOf p (k0_pay3 b) blk := by
  funext i
  idx_vars i
  pointwise [k0_pay5, slabOf, k0_pay3]

/-- What the body stores at rows 256 to 383 of the first hidden layer. -/
theorem slab_2 (p : FVec Ideal S2048x128 .f32) (b : FVec Ideal S1x128 .f32) (blk : FVec Ideal S128x2048 .f32) :
    ((k0_pay8 (k0_pay6 p blk) (k0_pay7 (k0_pay3 b))) : FVec Ideal S128x128 .f32) = slabOf p (k0_pay3 b) blk := by
  funext i
  idx_vars i
  pointwise [k0_pay8, k0_pay6, k0_pay7, slabOf, k0_pay3]

/-- What the body stores at rows 384 to 511 of the first hidden layer. -/
theorem slab_3 (p : FVec Ideal S2048x128 .f32) (b : FVec Ideal S1x128 .f32) (blk : FVec Ideal S128x2048 .f32) :
    ((k0_pay9 p (k0_pay3 b) blk) : FVec Ideal S128x128 .f32) = slabOf p (k0_pay3 b) blk := by
  funext i
  idx_vars i
  pointwise [k0_pay9, slabOf, k0_pay3]

/-- What the body stores at rows 512 to 639 of the first hidden layer. -/
theorem slab_4 (p : FVec Ideal S2048x128 .f32) (b : FVec Ideal S1x128 .f32) (blk : FVec Ideal S128x2048 .f32) :
    ((k0_pay11 (k0_pay10 p (k0_pay3 b) blk)) : FVec Ideal S128x128 .f32) = slabOf p (k0_pay3 b) blk := by
  funext i
  idx_vars i
  pointwise [k0_pay11, k0_pay10, slabOf, k0_pay3]

/-- What the body stores at rows 640 to 767 of the first hidden layer. -/
theorem slab_5 (p : FVec Ideal S2048x128 .f32) (b : FVec Ideal S1x128 .f32) (blk : FVec Ideal S128x2048 .f32) :
    ((k0_pay12 p (k0_pay3 b) blk) : FVec Ideal S128x128 .f32) = slabOf p (k0_pay3 b) blk := by
  funext i
  idx_vars i
  pointwise [k0_pay12, slabOf, k0_pay3]

/-- What the body stores at rows 768 to 895 of the first hidden layer. -/
theorem slab_6 (p : FVec Ideal S2048x128 .f32) (b : FVec Ideal S1x128 .f32) (blk : FVec Ideal S128x2048 .f32) :
    ((k0_pay13 p (k0_pay3 b) blk) : FVec Ideal S128x128 .f32) = slabOf p (k0_pay3 b) blk := by
  funext i
  idx_vars i
  pointwise [k0_pay13, slabOf, k0_pay3]

/-- What the body stores at rows 896 to 1023 of the first hidden layer. -/
theorem slab_7 (p : FVec Ideal S2048x128 .f32) (b : FVec Ideal S1x128 .f32) (blk : FVec Ideal S128x2048 .f32) :
    ((k0_pay14 p (k0_pay3 b) blk) : FVec Ideal S128x128 .f32) = slabOf p (k0_pay3 b) blk := by
  funext i
  idx_vars i
  pointwise [k0_pay14, slabOf, k0_pay3]

/-- What the body stores at rows 1024 to 1151 of the first hidden layer. -/
theorem slab_8 (p : FVec Ideal S2048x128 .f32) (b : FVec Ideal S1x128 .f32) (blk : FVec Ideal S128x2048 .f32) :
    ((k0_pay15 p (k0_pay3 b) blk) : FVec Ideal S128x128 .f32) = slabOf p (k0_pay3 b) blk := by
  funext i
  idx_vars i
  pointwise [k0_pay15, slabOf, k0_pay3]

/-- What the body stores at rows 1152 to 1279 of the first hidden layer. -/
theorem slab_9 (p : FVec Ideal S2048x128 .f32) (b : FVec Ideal S1x128 .f32) (blk : FVec Ideal S128x2048 .f32) :
    ((k0_pay16 p (k0_pay3 b) blk (constant S128x128 .f32 0#32)) : FVec Ideal S128x128 .f32) = slabOf p (k0_pay3 b) blk := by
  funext i
  idx_vars i
  pointwise [k0_pay16, slabOf, k0_pay3]

/-- What the body stores at rows 1280 to 1407 of the first hidden layer. -/
theorem slab_10 (p : FVec Ideal S2048x128 .f32) (b : FVec Ideal S1x128 .f32) (blk : FVec Ideal S128x2048 .f32) :
    ((k0_pay17 p (k0_pay3 b) blk) : FVec Ideal S128x128 .f32) = slabOf p (k0_pay3 b) blk := by
  funext i
  idx_vars i
  pointwise [k0_pay17, slabOf, k0_pay3]

/-- What the body stores at rows 1408 to 1535 of the first hidden layer. -/
theorem slab_11 (p : FVec Ideal S2048x128 .f32) (b : FVec Ideal S1x128 .f32) (blk : FVec Ideal S128x2048 .f32) :
    ((k0_pay19 (k0_pay18 p (k0_pay3 b) blk)) : FVec Ideal S128x128 .f32) = slabOf p (k0_pay3 b) blk := by
  funext i
  idx_vars i
  pointwise [k0_pay19, k0_pay18, slabOf, k0_pay3]

/-- What the body stores at rows 1536 to 1663 of the first hidden layer. -/
theorem slab_12 (p : FVec Ideal S2048x128 .f32) (b : FVec Ideal S1x128 .f32) (blk : FVec Ideal S128x2048 .f32) :
    ((k0_pay20 p (k0_pay3 b) blk) : FVec Ideal S128x128 .f32) = slabOf p (k0_pay3 b) blk := by
  funext i
  idx_vars i
  pointwise [k0_pay20, slabOf, k0_pay3]

/-- What the body stores at rows 1664 to 1791 of the first hidden layer. -/
theorem slab_13 (p : FVec Ideal S2048x128 .f32) (b : FVec Ideal S1x128 .f32) (blk : FVec Ideal S128x2048 .f32) :
    ((k0_pay21 p (k0_pay3 b) blk) : FVec Ideal S128x128 .f32) = slabOf p (k0_pay3 b) blk := by
  funext i
  idx_vars i
  pointwise [k0_pay21, slabOf, k0_pay3]

/-- What the body stores at rows 1792 to 1919 of the first hidden layer. -/
theorem slab_14 (p : FVec Ideal S2048x128 .f32) (b : FVec Ideal S1x128 .f32) (blk : FVec Ideal S128x2048 .f32) :
    ((k0_pay22 p (k0_pay3 b) blk) : FVec Ideal S128x128 .f32) = slabOf p (k0_pay3 b) blk := by
  funext i
  idx_vars i
  pointwise [k0_pay22, slabOf, k0_pay3]

/-- What the body stores at rows 1920 to 2047 of the first hidden layer. -/
theorem slab_15 (p : FVec Ideal S2048x128 .f32) (b : FVec Ideal S1x128 .f32) (blk : FVec Ideal S128x2048 .f32) :
    ((k0_pay23 p (k0_pay3 b) blk) : FVec Ideal S128x128 .f32) = slabOf p (k0_pay3 b) blk := by
  funext i
  idx_vars i
  pointwise [k0_pay23, slabOf, k0_pay3]

end Cert.KernelIdeal.Fused

end
-- ==== Proof.KernelStores.lean ====
/-
  WHAT THE KERNEL LEAVES. The sixteen copies assemble the adjacency matrix on chip, the sixteen stores assemble the first
  hidden layer, and so the body's two results are its arithmetic on the operands.
-/
module

public import proofs.«01_k».proof.Proof.KernelEntry
public import proofs.«01_k».proof.Proof.KernelPayload
public import Idealize.ShloMosaic.Lib.Pipeline.ReadBack

@[expose] public section

set_option maxRecDepth 16384

noncomputable section

namespace Cert.KernelIdeal.Fused

open Cert.KernelIdeal Cert.KernelIdeal.Gen Cert.Net
open Idealize.ShloMosaic Idealize.ShloMosaic.TcCoe Idealize.ShloMosaic.Tactic
open Idealize.ShloMosaic.Pipeline (Dat)

variable (m : (ℓ : Loc nD τ sig) → Buf (Elt Ideal) ℓ)

/-- The piece a copy of 128 rows from row `o` leaves: those rows of the matrix. -/
def slabPiece (A : FVec Ideal S2048x2048 .f32) (o : ℕ) (h : ∀ a, ![o, 0] a + S128x2048.size a ≤ S2048x2048.size a) :
    View.Piece (Elt Ideal) S2048x2048 .f32 :=
  ⟨Rect.unit (s := S2048x2048) ![o, 0] S128x2048.size h, fun x => A ((Rect.unit (s := S2048x2048) ![o, 0] S128x2048.size h).emb x)⟩

/-- The sixteen copies, the last first. -/
def slabs (A : FVec Ideal S2048x2048 .f32) : List (View.Piece (Elt Ideal) S2048x2048 .f32) :=
  [slabPiece A 1920 (by decide), slabPiece A 1792 (by decide), slabPiece A 1664 (by decide), slabPiece A 1536 (by decide),
    slabPiece A 1408 (by decide), slabPiece A 1280 (by decide), slabPiece A 1152 (by decide), slabPiece A 1024 (by decide),
    slabPiece A 896 (by decide), slabPiece A 768 (by decide), slabPiece A 640 (by decide), slabPiece A 512 (by decide),
    slabPiece A 384 (by decide), slabPiece A 256 (by decide), slabPiece A 128 (by decide), slabPiece A 0 (by decide)]

/-- The copies are blocks of the matrix. -/
theorem slabs_of (A : FVec Ideal S2048x2048 .f32) : View.PiecesOf A (slabs A) := by
  unfold slabs slabPiece
  exact ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, trivial⟩

/-- The copies fill the matrix. -/
theorem slabs_full (A : FVec Ideal S2048x2048 .f32) (y : S2048x2048.Idx) : ∃ p ∈ slabs A, y ∈ p.1.set :=
  View.cover_of_tiledL (slabs A) S128x2048.size (by sl_kernel_rfl) y

/-- A load of the assembled matrix reads the matrix. -/
theorem load_slabs (A : FVec Ideal S2048x2048 .f32) {κ : Kind} {sp : Space} (v : View sig κ sp S2048x2048 .f32)
    (L : List (View.Piece (Elt Ideal) S2048x2048 .f32)) (B : LoadRect S2048x2048) (hL : L = slabs A) :
    v.readCov L B = fun j => A (B.idx j) := by
  subst hL
  rw [View.readCov_eq_canon']
  funext j
  exact View.canon_apply_of_pieces A _ (slabs_of A).mem _ (slabs_full A _)

/-- The first hidden layer, from the matrix, the first projection and the bias row. -/
def hidden1 (A : FVec Ideal S2048x2048 .f32) (p : FVec Ideal S2048x128 .f32) (b : FVec Ideal S1x128 .f32) :
    FVec Ideal S2048x128 .f32 :=
  fun i => layer (cells A) (cells p) (fun j => b (ix2 0 j)) (i 0) (i 1)

/-- A rectangle of rows, loaded whole, is those rows. -/
theorem row_index (o : ℕ) (h : ∀ a, ![o, 0] a + S128x2048.size a ≤ S2048x2048.size a)
    (h' : ∀ a, ![o, 0] a + S128x128.size a ≤ S2048x128.size a) (x : S128x128.Idx) (k : Fin 2048) :
    (Rect.unit (s := S2048x2048) ![o, 0] S128x2048.size h).toLoadRect.idx (ix2 (x 0) k)
      = ix2 ((Rect.unit (s := S2048x128) ![o, 0] S128x128.size h').emb x 0) k := by
  funext a
  apply Fin.ext
  fin_cases a
  · show o + 1 * (x 0 : ℕ) = o + 1 * (x 0 : ℕ)
    rfl
  · show 0 + 1 * (k : ℕ) = k
    omega

/-- A slab's arithmetic on its rows of the matrix is its rows of the first hidden layer. -/
theorem slab_rows (A : FVec Ideal S2048x2048 .f32) (p : FVec Ideal S2048x128 .f32) (b : FVec Ideal S1x128 .f32) (o : ℕ)
    (h : ∀ a, ![o, 0] a + S128x2048.size a ≤ S2048x2048.size a) (h' : ∀ a, ![o, 0] a + S128x128.size a ≤ S2048x128.size a)
    (x : S128x128.Idx) :
    slabOf p (k0_pay3 b) (fun j => A ((Rect.unit (s := S2048x2048) ![o, 0] S128x2048.size h).toLoadRect.idx j)) x
      = hidden1 A p b ((Rect.unit (s := S2048x128) ![o, 0] S128x128.size h').emb x) := by
  have hl : (Rect.unit (s := S2048x128) ![o, 0] S128x128.size h').emb x 1 = x 1 :=
    Fin.ext (show 0 + 1 * (x 1 : ℕ) = x 1 by omega)
  have hb : k0_pay3 (F := Ideal) b (ix2 0 (x 1)) = b (ix2 0 (x 1)) := by pointwise [k0_pay3]
  unfold slabOf hidden1 layer dot cells
  rw [hl, hb]
  simp only [row_index o h h']
  rfl

/-- Pieces that are blocks of an array and fill it read back as the array. -/
theorem load_pieces {s : Shape} (G : FVec Ideal s .f32) {κ : Kind} {sp : Space} (v : View sig κ sp s .f32)
    (L : List (View.Piece (Elt Ideal) s .f32)) (B : LoadRect s) (hL : View.PiecesOf G L)
    (hc : ∀ y, ∃ p ∈ L, y ∈ p.1.set) : v.readCov L B = fun j => G (B.idx j) := by
  rw [View.readCov_eq_canon']
  funext j
  exact View.canon_apply_of_pieces G _ hL.mem _ (hc _)

/-- A load of the whole of an array's rectangle is the array. -/
theorem load_all (n k : ℕ) (G : FVec Ideal ⟨2, ![n, k]⟩ .f32) (h : ∀ a, ![0, 0] a + ![n, k] a ≤ ![n, k] a) :
    (fun j => G ((Rect.unit (s := ⟨2, ![n, k]⟩) ![0, 0] ![n, k] h).toLoadRect.idx j)) = G := by
  funext j
  congr 1
  funext a
  apply Fin.ext
  fin_cases a
  · show 0 + 1 * (j 0 : ℕ) = j 0
    omega
  · show 0 + 1 * (j 1 : ℕ) = j 1
    omega

set_option maxHeartbeats 4000000 in
/-- The pooled means the body leaves are its arithmetic on the operands. -/
theorem pooled_left (c : Dev nD) : pooledAt m c t0_0 = k0_pay25 (F := Ideal) (V m c main_arg1) (k0_pay24 (hidden1 (V m c main_arg1) (k0_pay2 (V m c main_arg0) (V m c main_arg3)) (V m c main_call0_v0)) (V m c main_arg5))
    (constant S2048x32 .f32 0#32) (V m c main_call0_v1) (V m c main_arg7) (V m c main_v3) (V m c main_v4) (V m c main_call0_v2) := by
  unfold pooledAt pooledLeft
  frame_open
  rw [View.canon_cons_unit_lit' _ _ _ (by decide)]
  simp (disch := decide) only [View.readAt_eq_ld, View.ld_unit_lit', Memref.IsWhole.read_unread, read_unread_whole]
  iterate 17 (rw [load_slabs (V m c main_arg1) _ _ _ ?_]; swap; · rfl)
  rw [block_0, block_3, block_4, block_5, block_6, block_7, block_1, block_2, block_8]
  rw [load_pieces (hidden1 (V m c main_arg1) (k0_pay2 (V m c main_arg0) (V m c main_arg3)) (V m c main_call0_v0)) _ _ _ ?_ ?_]
  · exact congrArg₂ (fun A h => k0_pay25 (F := Ideal) A (k0_pay24 h (V m c main_arg5))
    (constant S2048x32 .f32 0#32) (V m c main_call0_v1) (V m c main_arg7) (V m c main_v3) (V m c main_v4) (V m c main_call0_v2)) (load_all _ _ (V m c main_arg1) _) (load_all _ _ (hidden1 _ _ _) _)
  · exact ⟨fun x => (congrFun (slab_15 _ _ _) x).trans (slab_rows _ _ _ 1920 inb_S2048x2048_S128x2048_1920_0 inb_S2048x128_S128x128_1920_0 x),
      fun x => (congrFun (slab_14 _ _ _) x).trans (slab_rows _ _ _ 1792 inb_S2048x2048_S128x2048_1792_0 inb_S2048x128_S128x128_1792_0 x),
      fun x => (congrFun (slab_13 _ _ _) x).trans (slab_rows _ _ _ 1664 inb_S2048x2048_S128x2048_1664_0 inb_S2048x128_S128x128_1664_0 x),
      fun x => (congrFun (slab_12 _ _ _) x).trans (slab_rows _ _ _ 1536 inb_S2048x2048_S128x2048_1536_0 inb_S2048x128_S128x128_1536_0 x),
      fun x => (congrFun (slab_11 _ _ _) x).trans (slab_rows _ _ _ 1408 inb_S2048x2048_S128x2048_1408_0 inb_S2048x128_S128x128_1408_0 x),
      fun x => (congrFun (slab_10 _ _ _) x).trans (slab_rows _ _ _ 1280 inb_S2048x2048_S128x2048_1280_0 inb_S2048x128_S128x128_1280_0 x),
      fun x => (congrFun (slab_9 _ _ _) x).trans (slab_rows _ _ _ 1152 inb_S2048x2048_S128x2048_1152_0 inb_S2048x128_S128x128_1152_0 x),
      fun x => (congrFun (slab_8 _ _ _) x).trans (slab_rows _ _ _ 1024 inb_S2048x2048_S128x2048_1024_0 inb_S2048x128_S128x128_1024_0 x),
      fun x => (congrFun (slab_7 _ _ _) x).trans (slab_rows _ _ _ 896 inb_S2048x2048_S128x2048_896_0 inb_S2048x128_S128x128_896_0 x),
      fun x => (congrFun (slab_6 _ _ _) x).trans (slab_rows _ _ _ 768 inb_S2048x2048_S128x2048_768_0 inb_S2048x128_S128x128_768_0 x),
      fun x => (congrFun (slab_5 _ _ _) x).trans (slab_rows _ _ _ 640 inb_S2048x2048_S128x2048_640_0 inb_S2048x128_S128x128_640_0 x),
      fun x => (congrFun (slab_4 _ _ _) x).trans (slab_rows _ _ _ 512 inb_S2048x2048_S128x2048_512_0 inb_S2048x128_S128x128_512_0 x),
      fun x => (congrFun (slab_3 _ _ _) x).trans (slab_rows _ _ _ 384 inb_S2048x2048_S128x2048_384_0 inb_S2048x128_S128x128_384_0 x),
      fun x => (congrFun (slab_2 _ _ _) x).trans (slab_rows _ _ _ 256 inb_S2048x2048_S128x2048_256_0 inb_S2048x128_S128x128_256_0 x),
      fun x => (congrFun (slab_1 _ _ _) x).trans (slab_rows _ _ _ 128 inb_S2048x2048_S128x2048_128_0 inb_S2048x128_S128x128_128_0 x),
      fun x => (congrFun (slab_0 _ _ _) x).trans (slab_rows _ _ _ 0 inb_S2048x2048_S128x2048_0_0 inb_S2048x128_S128x128_0_0 x), trivial⟩
  · exact fun y => View.cover_of_tiledL (s := S2048x128) _ S128x128.size (by sl_kernel_rfl) y

set_option maxHeartbeats 4000000 in
/-- The class weights the body leaves are its arithmetic on the operands. -/
theorem gamma_left (c : Dev nD) : gammaAt m c t0_0 = k0_pay1 (F := Ideal) (k0_pay26 (V m c main_arg1) (k0_pay24 (hidden1 (V m c main_arg1) (k0_pay2 (V m c main_arg0) (V m c main_arg3)) (V m c main_call0_v0)) (V m c main_arg5))
    (constant S2048x32 .f32 0#32) (V m c main_call0_v1) (V m c main_arg7) (V m c main_v3) (V m c main_v4) (V m c main_call0_v2)
    (V m c main_arg9) (V m c main_call0_v3)) (V m c main_arg11) (V m c main_call0_v4) := by
  unfold gammaAt gammaLeft
  frame_open
  rw [View.canon_cons_unit_lit' _ _ _ (by decide)]
  simp (disch := decide) only [View.readAt_eq_ld, View.ld_unit_lit', Memref.IsWhole.read_unread, read_unread_whole]
  iterate 17 (rw [load_slabs (V m c main_arg1) _ _ _ ?_]; swap; · rfl)
  rw [block_0, block_3, block_4, block_5, block_6, block_7, block_1, block_2, block_8, block_9, block_10, block_11, block_12]
  rw [load_pieces (hidden1 (V m c main_arg1) (k0_pay2 (V m c main_arg0) (V m c main_arg3)) (V m c main_call0_v0)) _ _ _ ?_ ?_]
  · exact congrArg₂ (fun A h => k0_pay1 (F := Ideal) (k0_pay26 A (k0_pay24 h (V m c main_arg5))
    (constant S2048x32 .f32 0#32) (V m c main_call0_v1) (V m c main_arg7) (V m c main_v3) (V m c main_v4) (V m c main_call0_v2)
    (V m c main_arg9) (V m c main_call0_v3)) (V m c main_arg11) (V m c main_call0_v4)) (load_all _ _ (V m c main_arg1) _) (load_all _ _ (hidden1 _ _ _) _)
  · exact ⟨fun x => (congrFun (slab_15 _ _ _) x).trans (slab_rows _ _ _ 1920 inb_S2048x2048_S128x2048_1920_0 inb_S2048x128_S128x128_1920_0 x),
      fun x => (congrFun (slab_14 _ _ _) x).trans (slab_rows _ _ _ 1792 inb_S2048x2048_S128x2048_1792_0 inb_S2048x128_S128x128_1792_0 x),
      fun x => (congrFun (slab_13 _ _ _) x).trans (slab_rows _ _ _ 1664 inb_S2048x2048_S128x2048_1664_0 inb_S2048x128_S128x128_1664_0 x),
      fun x => (congrFun (slab_12 _ _ _) x).trans (slab_rows _ _ _ 1536 inb_S2048x2048_S128x2048_1536_0 inb_S2048x128_S128x128_1536_0 x),
      fun x => (congrFun (slab_11 _ _ _) x).trans (slab_rows _ _ _ 1408 inb_S2048x2048_S128x2048_1408_0 inb_S2048x128_S128x128_1408_0 x),
      fun x => (congrFun (slab_10 _ _ _) x).trans (slab_rows _ _ _ 1280 inb_S2048x2048_S128x2048_1280_0 inb_S2048x128_S128x128_1280_0 x),
      fun x => (congrFun (slab_9 _ _ _) x).trans (slab_rows _ _ _ 1152 inb_S2048x2048_S128x2048_1152_0 inb_S2048x128_S128x128_1152_0 x),
      fun x => (congrFun (slab_8 _ _ _) x).trans (slab_rows _ _ _ 1024 inb_S2048x2048_S128x2048_1024_0 inb_S2048x128_S128x128_1024_0 x),
      fun x => (congrFun (slab_7 _ _ _) x).trans (slab_rows _ _ _ 896 inb_S2048x2048_S128x2048_896_0 inb_S2048x128_S128x128_896_0 x),
      fun x => (congrFun (slab_6 _ _ _) x).trans (slab_rows _ _ _ 768 inb_S2048x2048_S128x2048_768_0 inb_S2048x128_S128x128_768_0 x),
      fun x => (congrFun (slab_5 _ _ _) x).trans (slab_rows _ _ _ 640 inb_S2048x2048_S128x2048_640_0 inb_S2048x128_S128x128_640_0 x),
      fun x => (congrFun (slab_4 _ _ _) x).trans (slab_rows _ _ _ 512 inb_S2048x2048_S128x2048_512_0 inb_S2048x128_S128x128_512_0 x),
      fun x => (congrFun (slab_3 _ _ _) x).trans (slab_rows _ _ _ 384 inb_S2048x2048_S128x2048_384_0 inb_S2048x128_S128x128_384_0 x),
      fun x => (congrFun (slab_2 _ _ _) x).trans (slab_rows _ _ _ 256 inb_S2048x2048_S128x2048_256_0 inb_S2048x128_S128x128_256_0 x),
      fun x => (congrFun (slab_1 _ _ _) x).trans (slab_rows _ _ _ 128 inb_S2048x2048_S128x2048_128_0 inb_S2048x128_S128x128_128_0 x),
      fun x => (congrFun (slab_0 _ _ _) x).trans (slab_rows _ _ _ 0 inb_S2048x2048_S128x2048_0_0 inb_S2048x128_S128x128_0_0 x), trivial⟩
  · exact fun y => View.cover_of_tiledL (s := S2048x128) _ S128x128.size (by sl_kernel_rfl) y

end Cert.KernelIdeal.Fused

end
-- ==== Proof.KernelValue.lean ====
/-
  WHAT THE KERNEL COMPUTES. Its two results, as tables of extended reals, in the arrays it is called with.
-/
module

public import proofs.«01_k».proof.Proof.KernelStores

@[expose] public section

set_option maxRecDepth 16384

noncomputable section

namespace Cert.KernelIdeal.Fused

open Cert.KernelIdeal Cert.KernelIdeal.Gen Cert.Net
open Idealize.ShloMosaic Idealize.ShloMosaic.TcCoe Idealize.ShloMosaic.Tactic

variable (m : (ℓ : Loc nD τ sig) → Buf (Elt Ideal) ℓ)

/-- The pooled means the kernel leaves, as tables: the indicator of each graph's nodes times the adjacency matrix, times
the third projection, over the number of nodes, plus the last bias. -/
theorem pooled_value (c : Dev nD) (r : Fin 8) (l : Fin 4) :
    pooledAt m c t0_0 (ix2 r l)
      = pooledByRows (graphEnds m c) (cells (m (c.tc.loc main_arg1)))
          (features (cells (m (c.tc.loc main_arg0))) (cells (m (c.tc.loc main_arg1))) (cells (m (c.tc.loc main_arg3)))
            (row (m (c.tc.loc main_arg4))) (cells (m (c.tc.loc main_arg5))) (row (m (c.tc.loc main_arg6)))
            (cells (m (c.tc.loc main_arg7))))
          (row (m (c.tc.loc main_arg8))) r l := by
  rw [pooled_left, pooled_pay _ _ _ _ _ _ _ (graphEnds m c) (ends_read m c) (starts_read m c)]
  have e₁ : cells (k0_pay2 (F := Ideal) (V m c main_arg0) (V m c main_arg3))
      = dot (cells (V m c main_arg0)) (cells (V m c main_arg3)) :=
    funext fun i => funext fun j => projection1 _ _ i j
  have e₂ : cells (k0_pay24 (F := Ideal) (hidden1 (V m c main_arg1) (k0_pay2 (V m c main_arg0) (V m c main_arg3)) (V m c main_call0_v0)) (V m c main_arg5))
      = dot (layer (cells (V m c main_arg1)) (dot (cells (V m c main_arg0)) (cells (V m c main_arg3)))
          (fun j => V m c main_call0_v0 (ix2 0 j))) (cells (V m c main_arg5)) :=
    funext fun i => funext fun j => (projection2 _ _ i j).trans (by rw [← e₁]; rfl)
  rw [e₂]
  rw [show (fun j => (V m c main_call0_v0 : FVec Ideal S1x128 .f32) (ix2 0 j)) = row (m (c.tc.loc main_arg4)) from funext (bias_4 m c),
    show (fun j => (V m c main_call0_v1 : FVec Ideal S1x32 .f32) (ix2 0 j)) = row (m (c.tc.loc main_arg6)) from funext (bias_6 m c),
    show (fun j => (V m c main_call0_v2 : FVec Ideal S1x4 .f32) (ix2 0 j)) = row (m (c.tc.loc main_arg8)) from funext (bias_8 m c),
    V_main_arg0, V_main_arg1, V_main_arg3, V_main_arg5, V_main_arg7]
  rfl

/-- The class weights the kernel leaves are the softmax of the scores of its pooled means. -/
theorem gamma_value (c : Dev nD) (r : Fin 8) (l : Fin 10) :
    gammaAt m c t0_0 (ix2 r l)
      = softmax (scores (cells (pooledAt m c t0_0)) (cells (m (c.tc.loc main_arg9))) (row (m (c.tc.loc main_arg10)))
          (cells (m (c.tc.loc main_arg11))) (row (m (c.tc.loc main_arg12)))) r l := by
  rw [gamma_left, gamma_pay, hidden_pay, ← pooled_left]
  rw [show (fun j => (V m c main_call0_v3 : FVec Ideal S1x32 .f32) (ix2 0 j)) = row (m (c.tc.loc main_arg10)) from funext (bias_10 m c),
    V_main_arg9, V_main_arg11]
  simp only [show ∀ j, (V m c main_call0_v4 : FVec Ideal S1x10 .f32) (ix2 0 j) = row (m (c.tc.loc main_arg12)) j from bias_12 m c]
  rfl

end Cert.KernelIdeal.Fused

end
-- ==== Proof.ReferenceValue.lean ====
/-
  WHAT THE REFERENCE COMPUTES, as tables: the encoding of the nodes, the number of a node's graph, the pooled means and the
  class weights.
-/
module

public import proofs.«01_k».proof.Proof.Layers
public import proofs.«01_k».proof.Proof.Gen.ReferenceIdeal.Read
public import Idealize.ShloMosaic.Lib.Routing.Ops
public import Idealize.ShloMosaic.Lib.Routing.OpsPair

@[expose] public section

set_option maxRecDepth 16384

noncomputable section

namespace Cert.ReferenceIdeal.Means

open Cert.ReferenceIdeal Cert.ReferenceIdeal.Gen Cert.ReferenceIdeal.Read Cert.Net
open Idealize.ShloMosaic

/-- The first layer. -/
theorem layer1 (x0 : FVec Ideal S2048x512 .f32)
    (x1 : FVec Ideal S2048x2048 .f32)
    (x3 : FVec Ideal S512x128 .f32)
    (x4 : FVec Ideal S128 .f32) :
    cells (val_main_v5 (F := Ideal) x0 x1 x3 x4 : FVec Ideal S2048x128 .f32) = layer (cells x1) (dot (cells x0) (cells x3)) (row x4) := by
  have e : cells (val_main_v0 (F := Ideal) x0 x3 : FVec Ideal S2048x128 .f32) = dot (cells x0) (cells x3) := by
    funext r l
    unfold cells
    pointwise [val_main_v0]
    rfl
  rw [← e]
  funext r l
  unfold cells
  unfold val_main_v5 val_main_v4 val_main_v1
  generalize val_main_v0 (F := Ideal) x0 x3 = p
  pointwise [val_main_v3, val_main_v2, val_main_call0_v0, val_main_call0_cst]
  rfl

/-- The second layer. -/
theorem layer2 (x0 : FVec Ideal S2048x512 .f32)
    (x1 : FVec Ideal S2048x2048 .f32)
    (x3 : FVec Ideal S512x128 .f32)
    (x4 : FVec Ideal S128 .f32)
    (x5 : FVec Ideal S128x32 .f32)
    (x6 : FVec Ideal S32 .f32) :
    cells (val_main_v11 (F := Ideal) x0 x1 x3 x4 x5 x6 : FVec Ideal S2048x32 .f32)
      = layer (cells x1) (dot (layer (cells x1) (dot (cells x0) (cells x3)) (row x4)) (cells x5)) (row x6) := by
  rw [← layer1]
  have e : cells (val_main_v6 (F := Ideal) x0 x1 x3 x4 x5 : FVec Ideal S2048x32 .f32)
      = dot (cells (val_main_v5 (F := Ideal) x0 x1 x3 x4 : FVec Ideal S2048x128 .f32)) (cells x5) := by
    funext r l
    unfold cells val_main_v6
    generalize val_main_v5 (F := Ideal) x0 x1 x3 x4 = h
    pointwise []
    rfl
  rw [← e]
  funext r l
  unfold cells
  unfold val_main_v11 val_main_v10 val_main_v7
  generalize val_main_v6 (F := Ideal) x0 x1 x3 x4 x5 = p
  pointwise [val_main_v9, val_main_v8, val_main_call1_v0, val_main_call1_cst]
  rfl

/-- The encoding of node `n`: the features aggregated over the adjacency matrix, with the last bias. -/
theorem encoding (x0 : FVec Ideal S2048x512 .f32)
    (x1 : FVec Ideal S2048x2048 .f32)
    (x3 : FVec Ideal S512x128 .f32)
    (x4 : FVec Ideal S128 .f32)
    (x5 : FVec Ideal S128x32 .f32)
    (x6 : FVec Ideal S32 .f32)
    (x7 : FVec Ideal S32x4 .f32)
    (x8 : FVec Ideal S4 .f32) (n : Fin 2048) (l : Fin 4) :
    (val_main_v16 (F := Ideal) x0 x1 x3 x4 x5 x6 x7 x8 : FVec Ideal S2048x4 .f32) (ix2 n l)
      = dot (cells x1) (features (cells x0) (cells x1) (cells x3) (row x4) (cells x5) (row x6) (cells x7)) n l + row x8 l := by
  unfold features
  rw [← layer2]
  have e : cells (val_main_v12 (F := Ideal) x0 x1 x3 x4 x5 x6 x7 : FVec Ideal S2048x4 .f32)
      = dot (cells (val_main_v11 (F := Ideal) x0 x1 x3 x4 x5 x6 : FVec Ideal S2048x32 .f32)) (cells x7) := by
    funext r l
    unfold cells val_main_v12
    generalize val_main_v11 (F := Ideal) x0 x1 x3 x4 x5 x6 = h
    pointwise []
    rfl
  rw [← e]
  unfold val_main_v16 val_main_v13
  generalize val_main_v12 (F := Ideal) x0 x1 x3 x4 x5 x6 x7 = p
  pointwise [val_main_v15, val_main_v14]
  rfl

/-- How many of the eight ends are at most `n`. -/
def graphOf (g : Fin 8 → BitVec 32) (n : ℕ) : ℕ := (Finset.univ.filter fun j : Fin 8 => (g j).toInt ≤ (n : ℤ)).card

/-- The number the reference gives node `n`: how many ends are at most `n`. -/
theorem segment (x2 : IVec S8 32) (n : Fin 2048) :
    (val_main_v24 (F := Ideal) x2 : IVec S2048 32) (ix1 n) = BitVec.ofNat 32 (graphOf (fun j => x2 (ix1 j)) n) := by
  have h := Routing.reduce_count (n := 2048) (m := 8) (by decide) (val_main_v22 (F := Ideal) x2) natLt_1_32
    reducesTo_S2048x8_S2048_d1 h_S_ n (fun q => ∃ h : q < 8, (x2 (ix1 ⟨q, h⟩)).toInt ≤ ((n : ℕ) : ℤ)) ?_
  · refine Eq.trans h (congrArg _ ?_)
    rw [← Routing.card_filter_fin]
    unfold graphOf
    refine congrArg Finset.card (Finset.ext fun q => ?_)
    simp only [Finset.mem_filter, Finset.mem_univ, true_and]
    exact ⟨fun ⟨_, h⟩ => h, fun h => ⟨q.isLt, h⟩⟩
  · intro q
    have hn : (BitVec.ofNat 32 (n : ℕ)).toInt = (n : ℤ) := by
      have := n.isLt
      have h : (BitVec.ofNat 32 (n : ℕ)).toNat = n := by rw [BitVec.toNat_ofNat]; omega
      rw [BitVec.toInt_eq_toNat_of_lt (by omega), h]
    have e : (val_main_v22 (F := Ideal) x2 : IVec S2048x8 1) (ix2 n q) = BitVec.ofBool ((x2 (ix1 q)).sle (BitVec.ofNat 32 (n : ℕ))) := by
      pointwise [val_main_v22, val_main_v20, val_main_v21, val_main_v19, val_main_v18, val_main_v17]
      rfl
    refine Iff.trans (iff_of_eq (congrArg (· = 1#1) e)) ?_
    rw [BitVec.sle_eq_decide, hn]
    have hq : (∃ h : (q : ℕ) < 8, (x2 (ix1 ⟨q, h⟩)).toInt ≤ (n : ℤ)) ↔ (x2 (ix1 q)).toInt ≤ (n : ℤ) :=
      ⟨fun ⟨_, h⟩ => h, fun h => ⟨q.isLt, h⟩⟩
    rw [hq]
    by_cases h : (x2 (ix1 q)).toInt ≤ (n : ℤ) <;> simp [h]

/-- The head's hidden row. -/
theorem hidden (x0 : FVec Ideal S2048x512 .f32)
    (x1 : FVec Ideal S2048x2048 .f32)
    (x2 : IVec S8 32)
    (x3 : FVec Ideal S512x128 .f32)
    (x4 : FVec Ideal S128 .f32)
    (x5 : FVec Ideal S128x32 .f32)
    (x6 : FVec Ideal S32 .f32)
    (x7 : FVec Ideal S32x4 .f32)
    (x8 : FVec Ideal S4 .f32)
    (x9 : FVec Ideal S4x32 .f32)
    (x10 : FVec Ideal S32 .f32) :
    cells (val_main_v41 (F := Ideal) x0 x1 x2 x3 x4 x5 x6 x7 x8 x9 x10 : FVec Ideal S8x32 .f32)
      = layer (cells (val_main_v36 (F := Ideal) x0 x1 x2 x3 x4 x5 x6 x7 x8 : FVec Ideal S8x4 .f32)) (cells x9) (row x10) := by
  funext r l
  unfold cells
  unfold val_main_v41 val_main_v40 val_main_v37
  generalize val_main_v36 (F := Ideal) x0 x1 x2 x3 x4 x5 x6 x7 x8 = P
  pointwise [val_main_v39, val_main_v38, val_main_call2_v0, val_main_call2_cst]
  rfl

/-- The class scores. -/
theorem class_scores (x0 : FVec Ideal S2048x512 .f32)
    (x1 : FVec Ideal S2048x2048 .f32)
    (x2 : IVec S8 32)
    (x3 : FVec Ideal S512x128 .f32)
    (x4 : FVec Ideal S128 .f32)
    (x5 : FVec Ideal S128x32 .f32)
    (x6 : FVec Ideal S32 .f32)
    (x7 : FVec Ideal S32x4 .f32)
    (x8 : FVec Ideal S4 .f32)
    (x9 : FVec Ideal S4x32 .f32)
    (x10 : FVec Ideal S32 .f32)
    (x11 : FVec Ideal S32x10 .f32)
    (x12 : FVec Ideal S10 .f32) :
    cells (val_main_v45 (F := Ideal) x0 x1 x2 x3 x4 x5 x6 x7 x8 x9 x10 x11 x12 : FVec Ideal S8x10 .f32)
      = scores (cells (val_main_v36 (F := Ideal) x0 x1 x2 x3 x4 x5 x6 x7 x8 : FVec Ideal S8x4 .f32)) (cells x9) (row x10) (cells x11) (row x12) := by
  unfold scores
  rw [← hidden]
  funext r l
  unfold cells
  unfold val_main_v45 val_main_v42
  generalize val_main_v41 (F := Ideal) x0 x1 x2 x3 x4 x5 x6 x7 x8 x9 x10 = h
  pointwise [val_main_v44, val_main_v43]
  rfl

/-- The class weights are the softmax of the scores. -/
theorem class_weights (x0 : FVec Ideal S2048x512 .f32)
    (x1 : FVec Ideal S2048x2048 .f32)
    (x2 : IVec S8 32)
    (x3 : FVec Ideal S512x128 .f32)
    (x4 : FVec Ideal S128 .f32)
    (x5 : FVec Ideal S128x32 .f32)
    (x6 : FVec Ideal S32 .f32)
    (x7 : FVec Ideal S32x4 .f32)
    (x8 : FVec Ideal S4 .f32)
    (x9 : FVec Ideal S4x32 .f32)
    (x10 : FVec Ideal S32 .f32)
    (x11 : FVec Ideal S32x10 .f32)
    (x12 : FVec Ideal S10 .f32) (r : Fin 8) (l : Fin 10) :
    (val_main_v56 (F := Ideal) x0 x1 x2 x3 x4 x5 x6 x7 x8 x9 x10 x11 x12 : FVec Ideal S8x10 .f32) (ix2 r l)
      = softmax (scores (cells (val_main_v36 (F := Ideal) x0 x1 x2 x3 x4 x5 x6 x7 x8 : FVec Ideal S8x4 .f32)) (cells x9) (row x10) (cells x11) (row x12)) r l := by
  rw [← class_scores]
  unfold val_main_v56 val_main_v55 val_main_v54 val_main_v53 val_main_v52 val_main_v51 val_main_v50 val_main_v49 val_main_v48 val_main_v46
  generalize val_main_v45 (F := Ideal) x0 x1 x2 x3 x4 x5 x6 x7 x8 x9 x10 x11 x12 = s
  pointwise [val_main_v47, val_main_cst_1, val_main_cst_2, val_main_cst_3]
  rw [max_eq_right ((Finset.le_fold_max _).2 (Or.inl le_rfl))]
  rfl

/-- An encoding's cell is added to the row its graph number names, in its own column. -/
theorem lands (w : IVec S2048x1 32) (n : Fin 2048) (q : Fin 4) (r : Fin 9) (l : Fin 4) :
    scatter_S9x4_S2048x1_S2048x4_1_0_0_1.resultIdx? (ix2 n q) w = some (ix2 r l)
      ↔ (w (ix2 n 0)).toInt = ((r : ℕ) : ℤ) ∧ q = l := by
  rw [show (some (ix2 r l) : Option S9x4.Idx) = some (ValueIdx.ix2 r l) from congrArg some (ix2_eq_valueIdx r l), Routing.resultIdx?_ix2]
  have hs0 : scatter_S9x4_S2048x1_S2048x4_1_0_0_1.start (ix2 n q) w 0 = (w (ix2 n 0)).toInt := by
    unfold ScatterDims.start
    rw [dif_pos (by decide)]
    congr 2
    funext b
    fin_cases b <;> rfl
  have hs1 : scatter_S9x4_S2048x1_S2048x4_1_0_0_1.start (ix2 n q) w 1 = 0 := by
    unfold ScatterDims.start
    rw [dif_neg (by decide)]
  have hw0 : scatter_S9x4_S2048x1_S2048x4_1_0_0_1.window (ix2 n q) 0 = 0 := by
    unfold ScatterDims.window
    rw [dif_neg (by decide)]
  have hw1 : scatter_S9x4_S2048x1_S2048x4_1_0_0_1.window (ix2 n q) 1 = (q : ℕ) := by
    unfold ScatterDims.window
    rw [dif_pos (by decide)]
    rfl
  rw [hs0, hs1, hw0, hw1]
  constructor
  · rintro ⟨h1, h2⟩
    exact ⟨by simpa using h1, Fin.ext (by omega)⟩
  · rintro ⟨h1, rfl⟩
    exact ⟨by simpa using h1, by simp⟩

/-- Adding rows into a table of zeros by their graph numbers leaves in row `r` the sum of the
rows whose number is `r`. -/
theorem sums (w : IVec S2048x1 32) (e : FVec Ideal S2048x4 .f32) (z : FVec Ideal S9x4 .f32)
    (hz : ∀ r l, z (ix2 r l) = 0) (r : Fin 9) (l : Fin 4) :
    (Host.scatterAdd (F := Ideal) scatter_S9x4_S2048x1_S2048x4_1_0_0_1 z w e : FVec Ideal S9x4 .f32) (ix2 r l)
      = ∑ n ∈ Finset.univ.filter (fun n : Fin 2048 => (w (ix2 n 0)).toInt = ((r : ℕ) : ℤ)), e (ix2 n l) := by
  have hd : (Host.scatterAdd (F := Ideal) scatter_S9x4_S2048x1_S2048x4_1_0_0_1 z w e : FVec Ideal S9x4 .f32) (ix2 r l)
      = z (ix2 r l) + ∑ j ∈ Finset.univ.filter (fun j => scatter_S9x4_S2048x1_S2048x4_1_0_0_1.resultIdx? j w = some (ix2 r l)), e j := rfl
  rw [hd]
  rw [hz, zero_add]
  refine Finset.sum_nbij' (fun j => j 0) (fun n => ix2 n l) ?_ ?_ ?_ ?_ ?_
  · intro j hj
    obtain ⟨n, q, rfl⟩ : ∃ (n : Fin 2048) (q : Fin 4), j = ix2 n q := ⟨_, _, eq_ix2 j⟩
    exact Finset.mem_filter.2 ⟨Finset.mem_univ _, ((lands w n q r l).1 (Finset.mem_filter.1 hj).2).1⟩
  · intro n hn
    exact Finset.mem_filter.2 ⟨Finset.mem_univ _, (lands w n l r l).2 ⟨(Finset.mem_filter.1 hn).2, rfl⟩⟩
  · intro j hj
    obtain ⟨n, q, rfl⟩ : ∃ (n : Fin 2048) (q : Fin 4), j = ix2 n q := ⟨_, _, eq_ix2 j⟩
    obtain ⟨_, rfl⟩ := (lands w n q r l).1 (Finset.mem_filter.1 hj).2
    rfl
  · intro n hn
    rfl
  · intro j hj
    obtain ⟨n, q, rfl⟩ : ∃ (n : Fin 2048) (q : Fin 4), j = ix2 n q := ⟨_, _, eq_ix2 j⟩
    obtain ⟨_, rfl⟩ := (lands w n q r l).1 (Finset.mem_filter.1 hj).2
    rfl

/-- The node counts the sums are divided by. -/
theorem counts (x2 : IVec S8 32) (r : Fin 8) (l : Fin 4) :
    (val_main_v35 (F := Ideal) x2 : FVec Ideal S8x4 .f32) (ix2 r l) = nodeCount (fun j => x2 (ix1 j)) r := by
  unfold nodeCount firstNode
  pointwise [val_main_v35, val_main_v34, val_main_v33, val_main_v32, val_main_v31, val_main_v30, val_main_v29]
  by_cases h : (r : ℕ) < 1
  · rw [dif_pos h, if_pos h]
    rfl
  · rw [dif_neg h, if_neg h]
    rfl

/-- The pooled rows: per graph, the sum of the encodings of the nodes numbered with it over the
node count. -/
theorem pooled (x0 : FVec Ideal S2048x512 .f32)
    (x1 : FVec Ideal S2048x2048 .f32)
    (x2 : IVec S8 32)
    (x3 : FVec Ideal S512x128 .f32)
    (x4 : FVec Ideal S128 .f32)
    (x5 : FVec Ideal S128x32 .f32)
    (x6 : FVec Ideal S32 .f32)
    (x7 : FVec Ideal S32x4 .f32)
    (x8 : FVec Ideal S4 .f32) (r : Fin 8) (l : Fin 4) :
    (val_main_v36 (F := Ideal) x0 x1 x2 x3 x4 x5 x6 x7 x8 : FVec Ideal S8x4 .f32) (ix2 r l)
      = Ideal.div (∑ n ∈ Finset.univ.filter (fun n : Fin 2048 => graphOf (fun j => x2 (ix1 j)) n = (r : ℕ)),
          (dot (cells x1) (features (cells x0) (cells x1) (cells x3) (row x4) (cells x5) (row x6) (cells x7)) n l + row x8 l))
          (nodeCount (fun j => x2 (ix1 j)) r) := by
  have hq : (val_main_v36 (F := Ideal) x0 x1 x2 x3 x4 x5 x6 x7 x8 : FVec Ideal S8x4 .f32) (ix2 r l)
      = Ideal.div ((val_main_v28 (F := Ideal) x0 x1 x2 x3 x4 x5 x6 x7 x8 : FVec Ideal S8x4 .f32) (ix2 r l))
          ((val_main_v35 (F := Ideal) x2 : FVec Ideal S8x4 .f32) (ix2 r l)) := by
    unfold val_main_v36
    generalize val_main_v28 (F := Ideal) x0 x1 x2 x3 x4 x5 x6 x7 x8 = p
    generalize val_main_v35 (F := Ideal) x2 = q
    rfl
  rw [hq, counts, val_main_v28_apply,
    show idx_main_v28 (ix2 r l) = ix2 (r.castLE (by decide) : Fin 9) l by funext b; fin_cases b <;> exact Fin.ext (by simp [idx_main_v28])]
  unfold val_main_v27
  rw [sums _ _ _ (fun r l => by pointwise [val_main_v25, val_main_cst])]
  have hf : (Finset.univ.filter fun n : Fin 2048 => ((val_main_v26 (F := Ideal) x2 : IVec S2048x1 32) (ix2 n 0)).toInt = ((r.castLE (by decide) : Fin 9) : ℕ))
      = Finset.univ.filter fun n : Fin 2048 => graphOf (fun j => x2 (ix1 j)) n = (r : ℕ) := by
    refine Finset.filter_congr fun n _ => ?_
    rw [show (val_main_v26 (F := Ideal) x2 : IVec S2048x1 32) (ix2 n 0) = val_main_v24 (F := Ideal) x2 (ix1 n) by
      pointwise [val_main_v26], segment]
    have hle : graphOf (fun j => x2 (ix1 j)) n ≤ 8 := (Finset.card_le_univ _).trans (by simp)
    rw [BitVec.toInt_ofNat']
    simp only [Fin.val_castLE]
    rw [Int.bmod_eq_of_le (by omega) (by omega)]
    omega
  rw [hf, Finset.sum_congr rfl fun n _ => encoding x0 x1 x3 x4 x5 x6 x7 x8 n l]

end Cert.ReferenceIdeal.Means

end
-- ==== Proof.Pooling.lean ====
/-
  THE TWO POOLED MEANS ARE EQUAL. Where the graphs' ends are sorted and lie from zero to the number of nodes and the
  tables hold real numbers, aggregating a graph's rows at once equals summing the aggregated nodes, and a bias added to
  every node and divided by their number is the bias; of a graph with no node both means are the same infinity. No program occurs here.
-/
module

public import proofs.«01_k».proof.Proof.Layers

@[expose] public section

noncomputable section

namespace Cert.Net

open Idealize.ShloMosaic

/-- Every entry of the table is a real number. -/
def RealTable {n k : ℕ} (A : Fin n → Fin k → EReal) : Prop := ∀ i j, ∃ r : ℝ, A i j = (r : EReal)

/-- Every entry of the row is a real number. -/
def RealRow {n : ℕ} (v : Fin n → EReal) : Prop := ∀ i, ∃ r : ℝ, v i = (r : EReal)

/-- The graphs' ends are not negative, do not decrease, and stop at most at the number of nodes. -/
structure Ends (g : Fin 8 → BitVec 32) : Prop where
  nonneg : 0 ≤ (g 0).toInt
  step : ∀ i : Fin 7, (g i.castSucc).toInt ≤ (g i.succ).toInt
  le : (g 7).toInt ≤ 2048

/-- A sum of reals, taken among the extended reals, is the real sum. -/
theorem sum_coe {ι : Type} (s : Finset ι) (a : ι → ℝ) : ∑ q ∈ s, (a q : EReal) = ((∑ q ∈ s, a q : ℝ) : EReal) := by
  classical
  induction s using Finset.induction_on with
  | empty => simp
  | insert q s h ih => rw [Finset.sum_insert h, Finset.sum_insert h, ih, EReal.coe_add]

/-- The product of two real tables is real. -/
theorem RealTable.dot {n k p : ℕ} {A : Fin n → Fin k → EReal} {B : Fin k → Fin p → EReal} (hA : RealTable A)
    (hB : RealTable B) : RealTable (dot A B) := by
  intro i j
  choose a ha using hA
  choose b hb using hB
  refine ⟨∑ q, a i q * b q j, ?_⟩
  rw [← sum_coe]
  exact Finset.sum_congr rfl fun q _ => by rw [ha, hb, EReal.coe_mul]

/-- A graph layer of real tables is real. -/
theorem RealTable.layer {n k p : ℕ} {A : Fin n → Fin k → EReal} {B : Fin k → Fin p → EReal} {b : Fin p → EReal}
    (hA : RealTable A) (hB : RealTable B) (hb : RealRow b) : RealTable (layer A B b) := by
  intro i j
  obtain ⟨d, hd⟩ := hA.dot hB i j
  obtain ⟨c, hc⟩ := hb j
  refine ⟨max (d + c) 0, ?_⟩
  unfold Net.layer
  rw [hd, hc, ← EReal.coe_add, ← EReal.coe_zero]
  exact (EReal.coe_strictMono.monotone.map_max).symm

/-- The features of real tables are real. -/
theorem features_real {n d h₁ h₂ o : ℕ} {x : Fin n → Fin d → EReal} {adj : Fin n → Fin n → EReal}
    {W1 : Fin d → Fin h₁ → EReal} {b1 : Fin h₁ → EReal} {W2 : Fin h₁ → Fin h₂ → EReal} {b2 : Fin h₂ → EReal}
    {W3 : Fin h₂ → Fin o → EReal} (hx : RealTable x) (hadj : RealTable adj) (hW1 : RealTable W1) (hb1 : RealRow b1)
    (hW2 : RealTable W2) (hb2 : RealRow b2) (hW3 : RealTable W3) : RealTable (features x adj W1 b1 W2 b2 W3) :=
  (hadj.layer ((hadj.layer (hx.dot hW1) hb1).dot hW2) hb2).dot hW3

section
variable {g : Fin 8 → BitVec 32} (hg : Ends g)
include hg

/-- The ends do not decrease. -/
theorem Ends.mono : Monotone fun i => (g i).toInt :=
  Fin.monotone_iff_le_succ.2 hg.step

/-- A graph's first node is not negative and at most its end. -/
theorem Ends.first (i : Fin 8) : 0 ≤ (firstNode g i).toInt ∧ (firstNode g i).toInt ≤ (g i).toInt := by
  have hnn : ∀ j : Fin 8, 0 ≤ (g j).toInt := fun j => hg.nonneg.trans (hg.mono (Fin.zero_le j))
  unfold firstNode
  split
  · exact ⟨by simp, by simpa using hnn i⟩
  · rename_i h
    exact ⟨hnn _, hg.mono (Fin.le_def.2 (by simp only; omega))⟩

/-- Every end is at most the number of nodes. -/
theorem Ends.last (i : Fin 8) : (g i).toInt ≤ 2048 :=
  (hg.mono (Fin.le_last i)).trans hg.le

/-- The count of a graph's nodes is its end less its first node. -/
theorem Ends.count (i : Fin 8) :
    nodeCount g i = ((((g i).toInt - (firstNode g i).toInt : ℤ) : ℝ) : EReal) := by
  have h1 := hg.first i
  have h2 := hg.last i
  unfold nodeCount
  rw [BitVec.toInt_sub, Int.bmod_eq_of_le (by norm_num; omega) (by norm_num; omega)]

/-- That many nodes lie between the two. -/
theorem Ends.card (i : Fin 8) :
    (((Finset.univ.filter fun n : Fin 2048 => (firstNode g i).toInt ≤ (n : ℤ) ∧ (n : ℤ) < (g i).toInt).card : ℕ) : ℤ)
      = (g i).toInt - (firstNode g i).toInt := by
  obtain ⟨h0, h1⟩ := hg.first i
  have h2 := hg.last i
  generalize (firstNode g i).toInt = p at *
  generalize (g i).toInt = q at *
  have hc : (Finset.univ.filter fun n : Fin 2048 => p ≤ (n : ℤ) ∧ (n : ℤ) < q).card = (Finset.Ico p q).card := by
    refine Finset.card_nbij (fun n => ((n : ℕ) : ℤ)) ?_ ?_ ?_
    · intro n hn
      exact Finset.mem_coe.2 (Finset.mem_Ico.2 (Finset.mem_filter.1 (Finset.mem_coe.1 hn)).2)
    · intro n _ k _ h
      exact Fin.ext (Int.ofNat.inj h)
    · intro z hz
      obtain ⟨hz1, hz2⟩ := Finset.mem_Ico.1 (Finset.mem_coe.1 hz)
      refine ⟨⟨z.toNat, by omega⟩, Finset.mem_coe.2 (Finset.mem_filter.2 ⟨Finset.mem_univ _, ?_⟩), ?_⟩
      · simp only; omega
      · simp only; omega
  rw [hc, Int.card_Ico]
  omega

/-- As many ends as `i` are at most a node exactly where the node lies in graph `i`. -/
theorem Ends.graph (i : Fin 8) (n : ℕ) :
    (Finset.univ.filter fun j : Fin 8 => (g j).toInt ≤ (n : ℤ)).card = (i : ℕ)
      ↔ (firstNode g i).toInt ≤ (n : ℤ) ∧ (n : ℤ) < (g i).toInt := by
  have hup : (firstNode g i).toInt ≤ (n : ℤ) →
      Finset.Iio i ⊆ Finset.univ.filter fun j : Fin 8 => (g j).toInt ≤ (n : ℤ) := by
    intro h j hj
    have hj := Finset.mem_Iio.1 hj
    refine Finset.mem_filter.2 ⟨Finset.mem_univ _, le_trans ?_ h⟩
    have hi : ¬ (i : ℕ) < 1 := by have := Fin.lt_def.1 hj; omega
    unfold firstNode
    rw [if_neg hi]
    exact hg.mono (Fin.le_def.2 (by have := Fin.lt_def.1 hj; simp only; omega))
  have hdown : (n : ℤ) < (g i).toInt →
      (Finset.univ.filter fun j : Fin 8 => (g j).toInt ≤ (n : ℤ)) ⊆ Finset.Iio i := by
    intro h j hj
    have hj := (Finset.mem_filter.1 hj).2
    exact Finset.mem_Iio.2 (hg.mono.reflect_lt (lt_of_le_of_lt hj h))
  constructor
  · intro h
    constructor
    · by_contra hc
      have hi : ¬ (i : ℕ) < 1 := by
        intro hi
        unfold firstNode at hc
        rw [if_pos hi] at hc
        simp at hc
      unfold firstNode at hc
      rw [if_neg hi] at hc
      have hs : (Finset.univ.filter fun j : Fin 8 => (g j).toInt ≤ (n : ℤ)) ⊆ Finset.Iio ⟨(i : ℕ) - 1, by omega⟩ := by
        intro j hj
        have hj := (Finset.mem_filter.1 hj).2
        exact Finset.mem_Iio.2 (hg.mono.reflect_lt (lt_of_le_of_lt hj (not_le.1 hc)))
      have := Finset.card_le_card hs
      rw [Fin.card_Iio, h] at this
      simp only at this
      omega
    · by_contra hc
      have hs : Finset.Iic i ⊆ Finset.univ.filter fun j : Fin 8 => (g j).toInt ≤ (n : ℤ) := by
        intro j hj
        exact Finset.mem_filter.2 ⟨Finset.mem_univ _, (hg.mono (Finset.mem_Iic.1 hj)).trans (not_lt.1 hc)⟩
      have := Finset.card_le_card hs
      rw [Fin.card_Iic, h] at this
      omega
  · rintro ⟨h1, h2⟩
    rw [subset_antisymm (hdown h2) (hup h1), Fin.card_Iio]

omit hg in
/-- The indicator's row times the adjacency matrix, times the features, is the sum of the aggregated nodes of the graph. -/
theorem rows_dot {a : Fin 2048 → Fin 2048 → ℝ} {f : Fin 2048 → Fin 4 → ℝ} (i : Fin 8) (l : Fin 4) :
    dot (dot (indicator g) fun n q => (a n q : EReal)) (fun q l => (f q l : EReal)) i l
      = ((∑ n ∈ Finset.univ.filter (fun n : Fin 2048 => (firstNode g i).toInt ≤ (n : ℤ) ∧ (n : ℤ) < (g i).toInt),
          ∑ q, a n q * f q l : ℝ) : EReal) := by
  have hrow : ∀ q, dot (indicator g) (fun n q => (a n q : EReal)) i q
      = ((∑ n ∈ Finset.univ.filter (fun n : Fin 2048 => (firstNode g i).toInt ≤ (n : ℤ) ∧ (n : ℤ) < (g i).toInt),
          a n q : ℝ) : EReal) := by
    intro q
    rw [← sum_coe, Finset.sum_filter]
    refine Finset.sum_congr rfl fun n _ => ?_
    unfold indicator
    split
    · rw [one_mul]
    · rw [zero_mul]
  rw [Finset.sum_comm, ← sum_coe]
  unfold dot at hrow ⊢
  refine Finset.sum_congr rfl fun q _ => ?_
  rw [hrow, ← EReal.coe_mul, Finset.sum_mul]

omit hg in
/-- A bias added to every one of the nodes and divided by their number is the bias, whatever extended real it is. -/
theorem bias_out {t c : ℝ} (hc : 0 < c) (b : EReal) :
    ((t : EReal) + (c : EReal) * b) * ((c : EReal))⁻¹ = (t : EReal) * ((c : EReal))⁻¹ + b := by
  have hi : 0 < c⁻¹ := inv_pos.2 hc
  rw [← EReal.coe_inv]
  induction b with
  | bot =>
    rw [EReal.coe_mul_bot_of_pos hc, EReal.add_bot, EReal.bot_mul_coe_of_pos hi, EReal.add_bot]
  | top =>
    rw [EReal.coe_mul_top_of_pos hc, EReal.coe_add_top, EReal.top_mul_coe_of_pos hi, ← EReal.coe_mul,
      EReal.coe_add_top]
  | coe b =>
    simp only [← EReal.coe_mul, ← EReal.coe_add]
    congr 1
    field_simp

/-- The kernel's pooled mean is the reference's. -/
theorem pooled_eq {adj : Fin 2048 → Fin 2048 → EReal} {f : Fin 2048 → Fin 4 → EReal} (hadj : RealTable adj)
    (hf : RealTable f) (b : Fin 4 → EReal) (i : Fin 8) (l : Fin 4) :
    pooledByRows g adj f b i l = pooledByNodes g adj f b i l := by
  choose a ha using hadj
  choose p hp using hf
  obtain rfl : adj = fun n q => (a n q : EReal) := funext fun n => funext fun q => ha n q
  obtain rfl : f = fun n q => (p n q : EReal) := funext fun n => funext fun q => hp n q
  have hcard := hg.card i
  unfold pooledByRows pooledByNodes
  rw [rows_dot, hg.count]
  have hnode : ∀ n, dot (fun n q => (a n q : EReal)) (fun q l => (p q l : EReal)) n l = ((∑ q, a n q * p q l : ℝ) : EReal) := by
    intro n
    rw [← sum_coe]
    exact Finset.sum_congr rfl fun q _ => (EReal.coe_mul _ _).symm
  simp only [hnode]
  rw [Finset.sum_add_distrib, sum_coe, Finset.sum_const, EReal.nsmul_eq_mul]
  generalize (Finset.univ.filter fun n : Fin 2048 => (firstNode g i).toInt ≤ (n : ℤ) ∧ (n : ℤ) < (g i).toInt) = s at *
  rw [← hcard, show ((s.card : ℕ) : EReal) = (((s.card : ℤ) : ℝ) : EReal) by simp]
  rcases s.eq_empty_or_nonempty with rfl | hs
  · simp [Ideal.div]
  · have hc : (0 : ℝ) < ((s.card : ℤ) : ℝ) := by
      rw [Int.cast_pos]
      exact_mod_cast hs.card_pos
    have hne : (((s.card : ℤ) : ℝ) : EReal) ≠ 0 := fun h => hc.ne' (EReal.coe_eq_zero.1 h)
    unfold Ideal.div
    rw [if_neg hne, if_neg hne]
    exact (bias_out hc (b l)).symm

end

end Cert.Net

end
-- ==== Proof.Precondition.lean ====
/-
  THE PRECONDITION READ. Where the precondition's function of the argument arrays is one, the graphs' ends are
  sorted and lie from zero to the number of nodes, and every entry of the tables that reach the
  aggregation is a real number.
-/
module

public import proofs.«01_k».proof.Proof.Pooling
public import proofs.«01_k».proof.Pre_drawn
public import Idealize.ShloMosaic.Lib.ReduceAll
public import Idealize.ShloMosaic.Lib.Affine

@[expose] public section

set_option maxRecDepth 16384

noncomputable section

namespace Cert.Pre_drawn.Read

open Idealize.ShloMosaic Cert.Net

/-- An extended real whose magnitude is below infinity is a real number. -/
theorem real_of_lt {x : EReal} (h : max x (-x) < ⊤) : ∃ r : ℝ, x = (r : EReal) := by
  induction x with
  | bot => simp at h
  | top => simp at h
  | coe r => exact ⟨r, rfl⟩

/-- Where every magnitude of an array is below infinity, its entries are real numbers. -/
theorem reals {s : Shape} {ax : List (Fin s.rank)} (a : FVec Ideal s .f32) (hb : S_.BroadcastsInDim s (![] : Fin 0 → Fin s.rank))
    (hr : s.ReducesTo ax S_) (hu : 0 < S_.numel) (j : S_.Idx)
    (h : Host.reduce IntOp.andi (cmpf .olt (Host.absf a) (broadcastInDim s ![] hb (constant (F := Ideal) S_ .f32 0x7F800000#32)))
      (constantI S_ 1 1#1) hr hu j = 1#1) (i : s.Idx) : ∃ r : ℝ, a i = (r : EReal) := by
  have : Subsingleton S_.Idx := ⟨fun p q => funext fun b => b.elim0⟩
  have hi : Ideal.cmp .olt (max (a i) (-(a i))) (Ideal.ofBits .f32 0x7F800000#32) = 1#1 :=
    Host.reduce_andi_all _ _ hr hu j h i
  rw [show Ideal.ofBits .f32 0x7F800000#32 = ⊤ by simp [Ideal.ofBits, Ideal.ieee]] at hi
  refine real_of_lt ?_
  by_contra hc
  simp [Ideal.cmp, hc] at hi

/-- What the precondition says of the arrays. -/
structure Drawn (x0 : FVec Ideal S2048x512 .f32) (x1 : FVec Ideal S2048x2048 .f32) (x2 : IVec S8 32)
    (x3 : FVec Ideal S512x128 .f32) (x4 : FVec Ideal S128 .f32) (x5 : FVec Ideal S128x32 .f32) (x6 : FVec Ideal S32 .f32)
    (x7 : FVec Ideal S32x4 .f32) : Prop where
  ends : Ends fun j => x2 (ix1 j)
  x : RealTable (cells x0)
  adj : RealTable (cells x1)
  W1 : RealTable (cells x3)
  b1 : RealRow (row x4)
  W2 : RealTable (cells x5)
  b2 : RealRow (row x6)
  W3 : RealTable (cells x7)

variable [Facts]
open Facts

/-- The precondition's function is one only where all of it holds. -/
theorem drawn (x0 : FVec Ideal S2048x512 .f32) (x1 : FVec Ideal S2048x2048 .f32) (x2 : IVec S8 32)
    (x3 : FVec Ideal S512x128 .f32) (x4 : FVec Ideal S128 .f32) (x5 : FVec Ideal S128x32 .f32) (x6 : FVec Ideal S32 .f32)
    (x7 : FVec Ideal S32x4 .f32) (x8 : FVec Ideal S4 .f32) (x9 : FVec Ideal S4x32 .f32) (x10 : FVec Ideal S32 .f32)
    (x11 : FVec Ideal S32x10 .f32) (x12 : FVec Ideal S10 .f32)
    (h : fn (F := Ideal) x0 x1 x2 x3 x4 x5 x6 x7 x8 x9 x10 x11 x12 = fun _ => 1#1) : Drawn x0 x1 x2 x3 x4 x5 x6 x7 := by
  have : Subsingleton S_.Idx := ⟨fun p q => funext fun b => b.elim0⟩
  have h := congrFun h ix0
  unfold fn fn_part1 fn_part2 at h
  obtain ⟨h, hle⟩ := IntOp.andi_eq_one.1 h
  obtain ⟨h, hstep⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h1⟩ := IntOp.andi_eq_one.1 h
  obtain ⟨hnn, h0⟩ := IntOp.andi_eq_one.1 h
  have hnn := IntOp.cmpi_sge.1 hnn
  have hle := IntOp.cmpi_sle.1 hle
  have hstep : ∀ i : Fin 7, _ := fun i => IntOp.cmpi_sle.1 (Host.reduce_andi_all _ _ _ _ _ hstep (ix1 i))
  refine ⟨⟨?_, ?_, ?_⟩, fun i j => reals x0 _ _ _ _ h0 _, fun i j => reals x1 _ _ _ _ h1 _, fun i j => reals x3 _ _ _ _ h3 _,
    fun i => reals x4 _ _ _ _ h4 _, fun i j => reals x5 _ _ _ _ h5 _, fun i => reals x6 _ _ _ _ h6 _,
    fun i j => reals x7 _ _ _ _ h7 _⟩
  · have e : shapeCast S_ (extractStridedSlice S1 ![0] x2 slices_S8_S1_0) shapeCasts_S1_S_ ix0 = x2 (ix1 0) := by pointwise
    rw [← e]
    exact hnn
  · intro i
    have e : extractStridedSlice S7 ![0] x2 slices_S8_S7_0 (ix1 i) = x2 (ix1 i.castSucc) :=
      extractStridedSlice_apply ![0] x2 slices_S8_S7_0 (ix1 i) (ix1 i.castSucc) (fun a => match a with
        | ⟨0, _⟩ => by show i.val = 0 + i.val; omega)
    have e' : extractStridedSlice S7 ![1] x2 slices_S8_S7_1 (ix1 i) = x2 (ix1 i.succ) :=
      extractStridedSlice_apply ![1] x2 slices_S8_S7_1 (ix1 i) (ix1 i.succ) (fun a => match a with
        | ⟨0, _⟩ => by show i.val + 1 = 1 + i.val; omega)
    rw [← e, ← e']
    exact hstep i
  · have e : shapeCast S_ (extractStridedSlice S1 ![7] x2 slices_S8_S1_7) shapeCasts_S1_S_ ix0 = x2 (ix1 7) := by pointwise
    rw [← e]
    exact hle

end Cert.Pre_drawn.Read

end
-- ==== Proof.Equation.lean ====
/-
  THE TWO PROGRAMS' RESULTS ARE EQUAL, element by element, where the precondition holds of the arrays they are called with.
-/
module

public import proofs.«01_k».proof.Proof.KernelValue
public import proofs.«01_k».proof.Proof.ReferenceValue
public import proofs.«01_k».proof.Proof.Precondition

@[expose] public section

set_option maxRecDepth 16384

noncomputable section

namespace Cert.KernelIdeal.Fused

open Cert.KernelIdeal Cert.KernelIdeal.Gen Cert.Net
open Cert.ReferenceIdeal.Read (val_main_v36 val_main_v56)
open Cert.ReferenceIdeal.Means (graphOf pooled class_weights)
open Idealize.ShloMosaic Idealize.ShloMosaic.TcCoe Idealize.ShloMosaic.Tactic

/-- Where the ends are sorted, the reference's pooled rows are the means over the nodes between the ends. -/
theorem reference_pooled (x0 : FVec Ideal S2048x512 .f32) (x1 : FVec Ideal S2048x2048 .f32) (x2 : IVec S8 32) (x3 : FVec Ideal S512x128 .f32) (x4 : FVec Ideal S128 .f32) (x5 : FVec Ideal S128x32 .f32) (x6 : FVec Ideal S32 .f32) (x7 : FVec Ideal S32x4 .f32) (x8 : FVec Ideal S4 .f32)
    (hg : Ends fun j => x2 (ix1 j)) (r : Fin 8) (l : Fin 4) :
    (val_main_v36 (F := Ideal) x0 x1 x2 x3 x4 x5 x6 x7 x8 : FVec Ideal S8x4 .f32) (ix2 r l)
      = pooledByNodes (fun j => x2 (ix1 j)) (cells x1)
          (features (cells x0) (cells x1) (cells x3) (row x4) (cells x5) (row x6) (cells x7)) (row x8) r l := by
  rw [pooled]
  unfold pooledByNodes
  rw [show (Finset.univ.filter fun n : Fin 2048 => graphOf (fun j => x2 (ix1 j)) n = (r : ℕ))
      = Finset.univ.filter fun n : Fin 2048 => (firstNode (fun j => x2 (ix1 j)) r).toInt ≤ (n : ℤ) ∧ (n : ℤ) < (x2 (ix1 r)).toInt from
    Finset.filter_congr fun n _ => hg.graph r n]

variable (m : (ℓ : Loc nD τ sig) → Buf (Elt Ideal) ℓ)

/-- The precondition read of the arrays in a device's memory. -/
abbrev DrawnAt (c : Dev nD) : Prop :=
  Cert.Pre_drawn.Read.Drawn (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-- The kernel's pooled means are the reference's. -/
theorem pooled_agree (c : Dev nD) (h : DrawnAt m c) :
    (pooledAt m c t0_0 : FVec Ideal S8x4 .f32)
      = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  funext i
  obtain ⟨r, l, rfl⟩ : ∃ (r : Fin 8) (l : Fin 4), i = ix2 r l := ⟨_, _, eq_ix2 i⟩
  rw [pooled_value, reference_pooled (hg := h.ends)]
  exact pooled_eq h.ends h.adj (features_real h.x h.adj h.W1 h.b1 h.W2 h.b2 h.W3) _ r l

/-- The kernel's class weights are the reference's. -/
theorem gamma_agree (c : Dev nD) (h : DrawnAt m c) :
    (gammaAt m c t0_0 : FVec Ideal S8x10 .f32)
      = val_main_v56 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) := by
  funext i
  obtain ⟨r, l, rfl⟩ : ∃ (r : Fin 8) (l : Fin 10), i = ix2 r l := ⟨_, _, eq_ix2 i⟩
  rw [gamma_value, class_weights, pooled_agree m c h]

end Cert.KernelIdeal.Fused

end
-- ==== Proof.lean ====
/-
  THE CLAIMS PROVED. Every run of the kernel ends with its arguments as they were and every counter at zero, as printed and
  in the reals; so does every run of the reference; and where the precondition holds the two, in the extended reals, leave
  the same embedding, pooled means and class weights.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_drawn
public import proofs.«01_k».proof.Proof.Gen.ReferenceIdeal.Run
public import proofs.«01_k».proof.Proof.PrintedLaunch
public import proofs.«01_k».proof.Proof.Equation
public import Idealize.ShloMosaic.Lib.Quiescent

@[expose] public section

set_option maxRecDepth 16384

noncomputable section

namespace Cert.Proof

open Idealize.ShloMosaic Idealize.SL.Sem

/-- The printed kernel, at the machine's floats: every run ends, the arguments as they were, every counter at zero. -/
theorem kernel_frame : Cert.quiescent_Kernel (hKernel := Cert.Kernel.Gen.facts) :=
  fun m g _ => Cert.Kernel.Fused.quiescent m g

/-- The same of the kernel in the extended reals. -/
theorem ideal_frame : Cert.quiescent_KernelIdeal (hKernelIdeal := Cert.KernelIdeal.Gen.facts) :=
  fun m g _ => Cert.KernelIdeal.Fused.quiescent m g

/-- The same where the precondition holds. -/
theorem ideal_frame_drawn : Cert.quiescent_KernelIdeal_pre_drawn (hKernelIdeal := Cert.KernelIdeal.Gen.facts)
    (hPre_drawn := Cert.Pre_drawn.Gen.facts) :=
  fun m g _ => Cert.KernelIdeal.Fused.quiescent m g

/-- The reference in the extended reals: every run ends, the arguments as they were; it has no counter. -/
theorem reference_frame : Cert.quiescent_ReferenceIdeal (hReferenceIdeal := Cert.ReferenceIdeal.Gen.facts) :=
  fun m g _ => (θ_run Cert.ReferenceIdeal.defs _ _).mono
    (fun _ h => ⟨fun c => (h c).2.2.2, sem_eq_zero_of_no_sems rfl _⟩) (Cert.ReferenceIdeal.Value.run m g)

/-- The same where the precondition holds. -/
theorem reference_frame_drawn : Cert.quiescent_ReferenceIdeal_pre_drawn (hReferenceIdeal := Cert.ReferenceIdeal.Gen.facts)
    (hPre_drawn := Cert.Pre_drawn.Gen.facts) :=
  fun m g _ => reference_frame m g trivial

/-- Called with the same arrays, of which the precondition holds, the kernel and the reference end with equal results. -/
theorem equal_results : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hpre hargs
  have hdrawn : ∀ c, Cert.KernelIdeal.Fused.DrawnAt m c := fun c => Cert.Pre_drawn.Read.drawn _ _ _ _ _ _ _ _ _ _ _ _ _ (hpre c)
  refine ⟨_, _, _, (θ_run Cert.KernelIdeal.defs _ _).mono (fun r h c =>
    ⟨(h c).2.1, (h c).1.1.trans (Cert.KernelIdeal.Fused.pooled_array m c), (h c).1.2.trans (Cert.KernelIdeal.Fused.gamma_array m c), (h c).2⟩)
    (Cert.KernelIdeal.Fused.afterRun m g), (θ_run Cert.ReferenceIdeal.defs _ _).mono (fun r h c => ?_) (Cert.ReferenceIdeal.Value.run m' g')⟩
  obtain ⟨a0, a1, a2, a3, a4, a5, a6, a7, a8, a9, a10, a11, a12⟩ := hargs c
  refine ⟨(h c).1.trans a0, (h c).2.1.trans ?_, (h c).2.2.1.trans ?_, (h c).2.2.2⟩
  · rw [Cert.ReferenceIdeal.Read.val_main_v36_eq, a0, a1, a2, a3, a4, a5, a6, a7, a8]
    exact (Cert.KernelIdeal.Fused.pooled_agree m c (hdrawn c)).symm
  · rw [Cert.ReferenceIdeal.Read.val_main_v56_eq, a0, a1, a2, a3, a4, a5, a6, a7, a8, a9, a10, a11, a12]
    exact (Cert.KernelIdeal.Fused.gamma_agree m c (hdrawn c)).symm

/-- Everything claimed. -/
theorem claim : Cert.Claim :=
  ⟨Cert.Kernel.Gen.facts, Cert.KernelIdeal.Gen.facts, Cert.ReferenceIdeal.Gen.facts, Cert.Pre_drawn.Gen.facts,
    kernel_frame, ideal_frame, ideal_frame_drawn, reference_frame, reference_frame_drawn, trivial, equal_results⟩

end Cert.Proof

end
